-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 2, 2] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 2048, 4096]⟩ ⟨3, ![8, 2048, 4096]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 4096, 2048]⟩ ⟨3, ![8, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = Layout.blockN ⟨2, ![4096, 2048]⟩ ⟨2, ![8192, 2048]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S_ : Shape := ⟨0, ![]⟩
abbrev S1024x2048 : Shape := ⟨2, ![1024, 2048]⟩
abbrev S1024 : Shape := ⟨1, ![1024]⟩
abbrev S1024x1 : Shape := ⟨2, ![1024, 1]⟩
abbrev S2 : Shape := ⟨1, ![2]⟩
abbrev S1 : Shape := ⟨1, ![1]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩
abbrev S2048x2048 : Shape := ⟨2, ![2048, 2048]⟩

abbrev nBuf : Space → Nat
  | .hbm => 44
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4x2048x4096, .f32⟩
  | .hbm, ⟨3, _⟩ => ⟨S4x4096x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1024x2048, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024x1, .i32⟩
  | .hbm, ⟨37, _⟩ => ⟨S1024x2048, .f32⟩
  | .hbm, ⟨38, _⟩ => ⟨S1024x1, .i32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S4096x2048, .f32⟩
  | .local _ .vmem, ⟨0, _⟩ => ⟨S1024x2048, .f32⟩
  | .local _ .vmem, ⟨1, _⟩ => ⟨S1024x1, .i32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1024x2048, .f32⟩
  | .local _ .vmem, ⟨7, _⟩ => ⟨S1024x2048, .f32⟩
  | .local _ .vmem, ⟨8, _⟩ => ⟨S1024x1, .i32⟩
  | .local _ .vmem, ⟨9, _⟩ => ⟨S1x2048x512, .f32⟩
  | .local _ .vmem, ⟨10, _⟩ => ⟨S1x2048x512, .f32⟩
  | .local _ .vmem, ⟨11, _⟩ => ⟨S1x512x2048, .f32⟩
  | .local _ .vmem, ⟨12, _⟩ => ⟨S1x512x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 3 → Bool
  | ⟨0, _⟩ => false
  | ⟨1, _⟩ => false
  | ⟨2, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 3 28 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_c_6 : Ref sig .tc := ⟨.hbm, 23, rfl⟩
abbrev main_v13 : Ref sig .tc := ⟨.hbm, 24, rfl⟩
abbrev main_v14 : Ref sig .tc := ⟨.hbm, 25, rfl⟩
abbrev main_c_7 : Ref sig .tc := ⟨.hbm, 26, rfl⟩
abbrev main_v15 : Ref sig .tc := ⟨.hbm, 27, rfl⟩
abbrev main_c_8 : Ref sig .tc := ⟨.hbm, 28, rfl⟩
abbrev main_v16 : Ref sig .tc := ⟨.hbm, 29, rfl⟩
abbrev main_c_9 : Ref sig .tc := ⟨.hbm, 30, rfl⟩
abbrev main_v17 : Ref sig .tc := ⟨.hbm, 31, rfl⟩
abbrev main_c_10 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc4_stg0_0 : Ref sig .tc := ⟨.vmem, 14, rfl⟩
abbrev cc4_stg1_0 : Ref sig .tc := ⟨.vmem, 15, rfl⟩
abbrev cc4_stg2_0 : Ref sig .tc := ⟨.vmem, 16, rfl⟩
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc2_sem0_0 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc4_sem0_0 : DmaSem sig := 20
abbrev cc4_sem1_0 : DmaSem sig := 21
abbrev cc4_sem2_0 : DmaSem sig := 22
abbrev barrier0 : Sem sig := 0
abbrev barrier1 : Sem sig := 1
abbrev barrier2 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.subi c1_i32 v2
  let c4_i32_5 : BitVec 32 := 4#32
  let v11 : BitVec 32 := Scalar.muli v3 c4_i32_5
  let v12 : BitVec 32 := Scalar.addi c0_i32 v11
  let v4 : BitVec 32 := Dev.word d0
  let c2_i32_1 : BitVec 32 := 2#32
  let v5 : BitVec 32 := Scalar.divsi v4 c2_i32_1
  let c2_i32_0 : BitVec 32 := 2#32
  let v6 : BitVec 32 := Scalar.remsi v5 c2_i32_0
  let c2_i32_6 : BitVec 32 := 2#32
  let v13 : BitVec 32 := Scalar.muli v6 c2_i32_6
  let v14 : BitVec 32 := Scalar.addi v12 v13
  let v7 : BitVec 32 := Dev.word d0
  let c1_i32_3 : BitVec 32 := 1#32
  let v8 : BitVec 32 := Scalar.divsi v7 c1_i32_3
  let c2_i32_2 : BitVec 32 := 2#32
  let v9 : BitVec 32 := Scalar.remsi v8 c2_i32_2
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_26 : BitVec 32 := 0#32
  let c1_i32_11 : BitVec 32 := 1#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v20 : BitVec 32 := Scalar.subi c1_i32_11 v19
  let c4_i32_25 : BitVec 32 := 4#32
  let v37 : BitVec 32 := Scalar.muli v20 c4_i32_25
  let v38 : BitVec 32 := Scalar.addi c0_i32_26 v37
  let v21 : BitVec 32 := Dev.word d0
  let c2_i32_13 : BitVec 32 := 2#32
  let v22 : BitVec 32 := Scalar.divsi v21 c2_i32_13
  let c2_i32_12 : BitVec 32 := 2#32
  let v23 : BitVec 32 := Scalar.remsi v22 c2_i32_12
  let c2_i32_27 : BitVec 32 := 2#32
  let v39 : BitVec 32 := Scalar.muli v23 c2_i32_27
  let v40 : BitVec 32 := Scalar.addi v38 v39
  let v24 : BitVec 32 := Dev.word d0
  let c1_i32_15 : BitVec 32 := 1#32
  let v25 : BitVec 32 := Scalar.divsi v24 c1_i32_15
  let c2_i32_14 : BitVec 32 := 2#32
  let v26 : BitVec 32 := Scalar.remsi v25 c2_i32_14
  let c1_i32_28 : BitVec 32 := 1#32
  let v41 : BitVec 32 := Scalar.muli v26 c1_i32_28
  let v42 : BitVec 32 := Scalar.addi v40 v41
  v42.toNat
def k0_dev3 (d0 : Dev nD) : Nat :=
  let c0_i32_32 : BitVec 32 := 0#32
  let c1_i32_18 : BitVec 32 := 1#32
  let v27 : BitVec 32 := Dev.word d0
  let c4_i32_17 : BitVec 32 := 4#32
  let v28 : BitVec 32 := Scalar.divsi v27 c4_i32_17
  let c2_i32_16 : BitVec 32 := 2#32
  let v29 : BitVec 32 := Scalar.remsi v28 c2_i32_16
  let v30 : BitVec 32 := Scalar.subi c1_i32_18 v29
  let c4_i32_31 : BitVec 32 := 4#32
  let v47 : BitVec 32 := Scalar.muli v30 c4_i32_31
  let v48 : BitVec 32 := Scalar.addi c0_i32_32 v47
  let v31 : BitVec 32 := Dev.word d0
  let c2_i32_20 : BitVec 32 := 2#32
  let v32 : BitVec 32 := Scalar.divsi v31 c2_i32_20
  let c2_i32_19 : BitVec 32 := 2#32
  let v33 : BitVec 32 := Scalar.remsi v32 c2_i32_19
  let c2_i32_33 : BitVec 32 := 2#32
  let v49 : BitVec 32 := Scalar.muli v33 c2_i32_33
  let v50 : BitVec 32 := Scalar.addi v48 v49
  let v34 : BitVec 32 := Dev.word d0
  let c1_i32_22 : BitVec 32 := 1#32
  let v35 : BitVec 32 := Scalar.divsi v34 c1_i32_22
  let c2_i32_21 : BitVec 32 := 2#32
  let v36 : BitVec 32 := Scalar.remsi v35 c2_i32_21
  let c1_i32_34 : BitVec 32 := 1#32
  let v51 : BitVec 32 := Scalar.muli v36 c1_i32_34
  let v52 : BitVec 32 := Scalar.addi v50 v51
  v52.toNat
abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1024x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1024x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := .none

def k3_dev1 (d0 : Dev nD) : Nat :=
  let c0_i32 : BitVec 32 := 0#32
  let c1_i32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.subi c1_i32 v2
  let c4_i32_5 : BitVec 32 := 4#32
  let v11 : BitVec 32 := Scalar.muli v3 c4_i32_5
  let v12 : BitVec 32 := Scalar.addi c0_i32 v11
  let v4 : BitVec 32 := Dev.word d0
  let c2_i32_1 : BitVec 32 := 2#32
  let v5 : BitVec 32 := Scalar.divsi v4 c2_i32_1
  let c2_i32_0 : BitVec 32 := 2#32
  let v6 : BitVec 32 := Scalar.remsi v5 c2_i32_0
  let c2_i32_6 : BitVec 32 := 2#32
  let v13 : BitVec 32 := Scalar.muli v6 c2_i32_6
  let v14 : BitVec 32 := Scalar.addi v12 v13
  let v7 : BitVec 32 := Dev.word d0
  let c1_i32_3 : BitVec 32 := 1#32
  let v8 : BitVec 32 := Scalar.divsi v7 c1_i32_3
  let c2_i32_2 : BitVec 32 := 2#32
  let v9 : BitVec 32 := Scalar.remsi v8 c2_i32_2
  let c1_i32_7 : BitVec 32 := 1#32
  let v15 : BitVec 32 := Scalar.muli v9 c1_i32_7
  let v16 : BitVec 32 := Scalar.addi v14 v15
  v16.toNat
def k3_dev2 (d0 : Dev nD) : Nat :=
  let c0_i32_17 : BitVec 32 := 0#32
  let c1_i32_11 : BitVec 32 := 1#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v20 : BitVec 32 := Scalar.subi c1_i32_11 v19
  let c4_i32_16 : BitVec 32 := 4#32
  let v27 : BitVec 32 := Scalar.muli v20 c4_i32_16
  let v28 : BitVec 32 := Scalar.addi c0_i32_17 v27
  let v21 : BitVec 32 := Dev.word d0
  let c2_i32_13 : BitVec 32 := 2#32
  let v22 : BitVec 32 := Scalar.divsi v21 c2_i32_13
  let c2_i32_12 : BitVec 32 := 2#32
  let v23 : BitVec 32 := Scalar.remsi v22 c2_i32_12
  let c2_i32_18 : BitVec 32 := 2#32
  let v29 : BitVec 32 := Scalar.muli v23 c2_i32_18
  let v30 : BitVec 32 := Scalar.addi v28 v29
  let v24 : BitVec 32 := Dev.word d0
  let c1_i32_15 : BitVec 32 := 1#32
  let v25 : BitVec 32 := Scalar.divsi v24 c1_i32_15
  let c2_i32_14 : BitVec 32 := 2#32
  let v26 : BitVec 32 := Scalar.remsi v25 c2_i32_14
  let c1_i32_19 : BitVec 32 := 1#32
  let v31 : BitVec 32 := Scalar.muli v26 c1_i32_19
  let v32 : BitVec 32 := Scalar.addi v30 v31
  v32.toNat
abbrev grid4 : Pipeline.Grid := .none

abbrev stage4_0 : Fin 1 → Memref sig .tc .vmem S1024x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1024x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1024x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev grid5 : Pipeline.Grid := .none

def k5_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v14 : BitVec 32 := Scalar.muli v2 c4_i32_7
  let v15 : BitVec 32 := Scalar.addi c0_i32 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v16 : BitVec 32 := Scalar.muli v5 c2_i32_8
  let v17 : BitVec 32 := Scalar.addi v15 v16
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_9 : BitVec 32 := 1#32
  let v18 : BitVec 32 := Scalar.muli v11 c1_i32_9
  let v19 : BitVec 32 := Scalar.addi v17 v18
  v19.toNat
def k5_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v20 : BitVec 32 := Scalar.muli v2 c4_i32_11
  let v21 : BitVec 32 := Scalar.addi c0_i32_12 v20
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_13 : BitVec 32 := 2#32
  let v22 : BitVec 32 := Scalar.muli v12 c2_i32_13
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v24 : BitVec 32 := Scalar.muli v8 c1_i32_14
  let v25 : BitVec 32 := Scalar.addi v23 v24
  v25.toNat
def k5_off1 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v26 : BitVec 32 := Scalar.muli v10 c1024_i32
  let c0_i32_16 : BitVec 32 := 0#32
  ![v26.toNat, 0]
def k5_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v33 : BitVec 32 := Scalar.muli v5 c2_i32_24
  let v34 : BitVec 32 := Scalar.addi v32 v33
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_25 : BitVec 32 := 1#32
  let v35 : BitVec 32 := Scalar.muli v11 c1_i32_25
  let v36 : BitVec 32 := Scalar.addi v34 v35
  v36.toNat
def k5_off2 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v59 : BitVec 32 := Scalar.muli v5 c2_i32_43
  let c1024_i32_44 : BitVec 32 := 1024#32
  let v60 : BitVec 32 := Scalar.muli v59 c1024_i32_44
  let c0_i32_51 : BitVec 32 := 0#32
  ![v60.toNat, 0]
def k5_dev4 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v61 : BitVec 32 := Scalar.muli v2 c4_i32_47
  let v62 : BitVec 32 := Scalar.addi c0_i32_48 v61
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_49 : BitVec 32 := 2#32
  let v63 : BitVec 32 := Scalar.muli v12 c2_i32_49
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v65 : BitVec 32 := Scalar.muli v8 c1_i32_50
  let v66 : BitVec 32 := Scalar.addi v64 v65
  v66.toNat
-- ==== ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S8192x4096 : Shape := ⟨2, ![8192, 4096]⟩
abbrev S8192x1 : Shape := ⟨2, ![8192, 1]⟩
abbrev S1x4096x2048 : Shape := ⟨3, ![1, 4096, 2048]⟩
abbrev S4096x2048 : Shape := ⟨2, ![4096, 2048]⟩

abbrev nBuf : Space → Nat
  | .hbm => 126
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8x2048x4096, .f32⟩
  | .hbm, ⟨3, _⟩ => ⟨S8x4096x2048, .f32⟩
  | .hbm, ⟨4, _⟩ => ⟨S_, .f32⟩
  | .hbm, ⟨5, _⟩ => ⟨S8192x2048, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S1x2048x4096, .f32⟩
  | .hbm, ⟨10, _⟩ => ⟨S2048x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1, .i1⟩
  | .hbm, ⟨16, _⟩ => ⟨S1x4096x2048, .f32⟩
  | .hbm, ⟨17, _⟩ => ⟨S4096x2048, .f32⟩
  | .hbm, ⟨18, _⟩ => ⟨S8192x2048, .f32⟩
  | .hbm, ⟨19, _⟩ => ⟨S8192x2048, .i1⟩
  | .hbm, ⟨20, _⟩ => ⟨S8192x2048, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S1x2048x4096, .f32⟩
  | .hbm, ⟨25, _⟩ => ⟨S2048x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x1, .i1⟩
  | .hbm, ⟨31, _⟩ => ⟨S1x4096x2048, .f32⟩
  | .hbm, ⟨32, _⟩ => ⟨S4096x2048, .f32⟩
  | .hbm, ⟨33, _⟩ => ⟨S8192x2048, .f32⟩
  | .hbm, ⟨34, _⟩ => ⟨S8192x2048, .i1⟩
  | .hbm, ⟨35, _⟩ => ⟨S8192x2048, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S1x2048x4096, .f32⟩
  | .hbm, ⟨40, _⟩ => ⟨S2048x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x1, .i1⟩
  | .hbm, ⟨46, _⟩ => ⟨S1x4096x2048, .f32⟩
  | .hbm, ⟨47, _⟩ => ⟨S4096x2048, .f32⟩
  | .hbm, ⟨48, _⟩ => ⟨S8192x2048, .f32⟩
  | .hbm, ⟨49, _⟩ => ⟨S8192x2048, .i1⟩
  | .hbm, ⟨50, _⟩ => ⟨S8192x2048, .f32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S1x2048x4096, .f32⟩
  | .hbm, ⟨55, _⟩ => ⟨S2048x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x1, .i1⟩
  | .hbm, ⟨61, _⟩ => ⟨S1x4096x2048, .f32⟩
  | .hbm, ⟨62, _⟩ => ⟨S4096x2048, .f32⟩
  | .hbm, ⟨63, _⟩ => ⟨S8192x2048, .f32⟩
  | .hbm, ⟨64, _⟩ => ⟨S8192x2048, .i1⟩
  | .hbm, ⟨65, _⟩ => ⟨S8192x2048, .f32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S1x2048x4096, .f32⟩
  | .hbm, ⟨70, _⟩ => ⟨S2048x4096, .f32⟩
  | .hbm, ⟨71, _⟩ => ⟨S8192x4096, .f32⟩
  | .hbm, ⟨72, _⟩ => ⟨S_, .f32⟩
  | .hbm, ⟨73, _⟩ => ⟨S8192x4096, .f32⟩
  | .hbm, ⟨74, _⟩ => ⟨S8192x4096, .f32⟩
  | .hbm, ⟨75, _⟩ => ⟨S8192x1, .i1⟩
  | .hbm, ⟨76, _⟩ => ⟨S1x4096x2048, .f32⟩
  | .hbm, ⟨77, _⟩ => ⟨S4096x2048, .f32⟩
  | .hbm, ⟨78, _⟩ => ⟨S8192x2048, .f32⟩
  | .hbm, ⟨79, _⟩ => ⟨S8192x2048, .i1⟩
  | .hbm, ⟨80, _⟩ => ⟨S8192x2048, .f32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S1x2048x4096, .f32⟩
  | .hbm, ⟨85, _⟩ => ⟨S2048x4096, .f32⟩
  | .hbm, ⟨86, _⟩ => ⟨S8192x4096, .f32⟩
  | .hbm, ⟨87, _⟩ => ⟨S_, .f32⟩
  | .hbm, ⟨88, _⟩ => ⟨S8192x4096, .f32⟩
  | .hbm, ⟨89, _⟩ => ⟨S8192x4096, .f32⟩
  | .hbm, ⟨90, _⟩ => ⟨S8192x1, .i1⟩
  | .hbm, ⟨91, _⟩ => ⟨S1x4096x2048, .f32⟩
  | .hbm, ⟨92, _⟩ => ⟨S4096x2048, .f32⟩
  | .hbm, ⟨93, _⟩ => ⟨S8192x2048, .f32⟩
  | .hbm, ⟨94, _⟩ => ⟨S8192x2048, .i1⟩
  | .hbm, ⟨95, _⟩ => ⟨S8192x2048, .f32⟩
  | .hbm, ⟨96, _⟩ => ⟨S_, .i32⟩
  | .hbm, ⟨97, _⟩ => ⟨S8192, .i32⟩
  | .hbm, ⟨98, _⟩ => ⟨S8192, .i1⟩
  | .hbm, ⟨99, _⟩ => ⟨S1x2048x4096, .f32⟩
  | .hbm, ⟨100, _⟩ => ⟨S2048x4096, .f32⟩
  | .hbm, ⟨101, _⟩ => ⟨S8192x4096, .f32⟩
  | .hbm, ⟨102, _⟩ => ⟨S_, .f32⟩
  | .hbm, ⟨103, _⟩ => ⟨S8192x4096, .f32⟩
  | .hbm, ⟨104, _⟩ => ⟨S8192x4096, .f32⟩
  | .hbm, ⟨105, _⟩ => ⟨S8192x1, .i1⟩
  | .hbm, ⟨106, _⟩ => ⟨S1x4096x2048, .f32⟩
  | .hbm, ⟨107, _⟩ => ⟨S4096x2048, .f32⟩
  | .hbm, ⟨108, _⟩ => ⟨S8192x2048, .f32⟩
  | .hbm, ⟨109, _⟩ => ⟨S8192x2048, .i1⟩
  | .hbm, ⟨110, _⟩ => ⟨S8192x2048, .f32⟩
  | .hbm, ⟨111, _⟩ => ⟨S_, .i32⟩
  | .hbm, ⟨112, _⟩ => ⟨S8192, .i32⟩
  | .hbm, ⟨113, _⟩ => ⟨S8192, .i1⟩
  | .hbm, ⟨114, _⟩ => ⟨S1x2048x4096, .f32⟩
  | .hbm, ⟨115, _⟩ => ⟨S2048x4096, .f32⟩
  | .hbm, ⟨116, _⟩ => ⟨S8192x4096, .f32⟩
  | .hbm, ⟨117, _⟩ => ⟨S_, .f32⟩
  | .hbm, ⟨118, _⟩ => ⟨S8192x4096, .f32⟩
  | .hbm, ⟨119, _⟩ => ⟨S8192x4096, .f32⟩
  | .hbm, ⟨120, _⟩ => ⟨S8192x1, .i1⟩
  | .hbm, ⟨121, _⟩ => ⟨S1x4096x2048, .f32⟩
  | .hbm, ⟨122, _⟩ => ⟨S4096x2048, .f32⟩
  | .hbm, ⟨123, _⟩ => ⟨S8192x2048, .f32⟩
  | .hbm, ⟨124, _⟩ => ⟨S8192x2048, .i1⟩
  | .hbm, ⟨125, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Talk.lean ====
/- The conversation of the eight devices: which counter each copy and each barrier signal raises, what travels with it,
   and what every device owes the others when the program starts.

   Device `c` sits at `(c/4, c/2%2, c%2)` of the mesh; `px`, `py`, `pz` are its neighbours along the three axes. -/
module

public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## Neighbours -/

/-- The neighbour along the first axis. -/
def px (c : Dev nD) : Dev nD := ⟨(2 * ((c.val / 2) % 2) + c.val % 2 + 4) - 4 * (c.val / 4), by revert c; decide⟩
/-- The neighbour along the second axis. -/
def py (c : Dev nD) : Dev nD := ⟨(4 * (c.val / 4) + c.val % 2 + 2) - 2 * ((c.val / 2) % 2), by revert c; decide⟩
/-- The neighbour along the third axis. -/
def pz (c : Dev nD) : Dev nD := ⟨(4 * (c.val / 4) + 2 * ((c.val / 2) % 2) + 1) - c.val % 2, by revert c; decide⟩

theorem px_px : ∀ c : Dev nD, px (px c) = c := by decide
theorem py_py : ∀ c : Dev nD, py (py c) = c := by decide
theorem pz_pz : ∀ c : Dev nD, pz (pz c) = c := by decide

/-- Device `q` of the four that share `c`'s place on the first axis. -/
def mate (c : Dev nD) (q : Fin 4) : Dev nD := ⟨4 * (c.val / 4) + q.val, by revert c q; decide⟩

/-! ## The cells -/

abbrev bar0 : Sem sig := 0
abbrev bar1 : Sem sig := 1
abbrev bar2 : Sem sig := 2

/-- The fourteen counters a device is spoken to through: three barriers, and the eleven of its copies. -/
def sm : Fin 14 → SemLoc sig
  | 0 => .reg 0 | 1 => .reg 1 | 2 => .reg 2
  | 3 => .dma 0 | 4 => .dma 1 | 5 => .dma 2 | 6 => .dma 3
  | 7 => .dma 18 | 8 => .dma 19
  | 9 => .dma 23 | 10 => .dma 24 | 11 => .dma 25 | 12 => .dma 26 | 13 => .dma 27

theorem sm_inj : Function.Injective sm := by decide

abbrev cell (c : Dev nD) (k : Fin 14) : GSem nD τ sig := ((c : Thread nD τ), sm k)

theorem cell_inj : Function.Injective fun ck : Dev nD × Fin 14 => cell ck.1 ck.2 := fun _ _ h =>
  Prod.ext (congrArg (fun g : GSem nD τ sig => g.1.1) h) (sm_inj (congrArg Prod.snd h))

/-- Which of the fourteen a counter is. -/
def kind (s : SemLoc sig) : Option (Fin 14) := (List.finRange 14).find? fun k => sm k = s
theorem kind_sm : ∀ k, kind (sm k) = some k := by decide

/-! ## Contents -/

/-- What the devices' conversation carries: each device's quarter of its rows and of their experts, what it computed for its
    neighbour's rows, and its finished rows. -/
structure Vals (F : FTy → Type) where
  x : Dev nD → (main_v15 : Ref sig .tc).ty.Contents (Elt F)
  a : Dev nD → (main_v21 : Ref sig .tc).ty.Contents (Elt F)
  rem : Dev nD → (main_v24 : Ref sig .tc).ty.Contents (Elt F)
  out : Dev nD → (main_v26 : Ref sig .tc).ty.Contents (Elt F)

variable (D : Vals F)

/-- The gathered rows: row `r` is row `r % 1024` of device `r / 1024` of the four. -/
def gath (c : Dev nD) : (main_v27 : Ref sig .tc).ty.Contents (Elt F) := fun i =>
  D.out (mate c ⟨(i 0).val / 1024, Nat.div_lt_of_lt_mul (i 0).isLt⟩)
    (fun | 0 => ⟨(i 0).val % 1024, Nat.mod_lt _ (by decide)⟩ | 1 => ⟨(i 1).val, (i 1).isLt⟩)

theorem gath_congr {c c' : Dev nD} (h : c.val / 4 = c'.val / 4) : gath D c = gath D c' := by
  unfold gath mate; simp only [h]

abbrev UB : Type := Rounds.URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A whole array or a slice of one, on device `c`, at `f`. -/
abbrev pts {s : Shape} {e : EltTy} (M : Memref sig .tc .hbm s e) (c : Dev nD) (f : Buf (Elt F) (M.view.loc (c : Thread nD τ))) : sProp 𝕄 :=
  M.view.loc (c : Thread nD τ) ↦[M.view.set]{fullShare} f

abbrev m15 : Memref sig .tc .hbm S1024x2048 .f32 := Memref.whole main_v15
abbrev m21 : Memref sig .tc .hbm S1024x1 .i32 := Memref.whole main_v21
abbrev m220 : Memref sig .tc .hbm S1024x2048 .f32 := Memref.whole main_v22_0
abbrev m221 : Memref sig .tc .hbm S1024x1 .i32 := Memref.whole main_v22_1
abbrev m24 : Memref sig .tc .hbm S1024x2048 .f32 := Memref.whole main_v24
abbrev m25 : Memref sig .tc .hbm S1024x2048 .f32 := Memref.whole main_v25
abbrev m26 : Memref sig .tc .hbm S1024x2048 .f32 := Memref.whole main_v26
abbrev m27 : Memref sig .tc .hbm S4096x2048 .f32 := Memref.whole main_v27
/-- The 1024 rows device `d` computes, of a 4096-row result. -/
abbrev blk (d : Dev nD) : Memref sig .tc .hbm S1024x2048 .f32 :=
  m27.slice (Rect.unit (s := S4096x2048) (k5_off1 d) S1024x2048.size (Facts₀.k5_off1_inb d)) (fun _ => rfl)
/-- The 2048 rows device `d` and its neighbour along the third axis compute. -/
abbrev half (d : Dev nD) : Memref sig .tc .hbm S2048x2048 .f32 :=
  m27.slice (Rect.unit (s := S4096x2048) (k5_off2 d) S2048x2048.size (Facts₀.k5_off2_inb d)) (fun _ => rfl)

/-! ## The schedule -/

abbrev NX : ℕ := m25.view.dmaCredit
abbrev NA : ℕ := m221.view.dmaCredit
abbrev NH : ℕ := (half 0).view.dmaCredit
theorem NX_pos : 0 < NX := View.dmaCredit_pos _ (by decide)
theorem NA_pos : 0 < NA := View.dmaCredit_pos _ (by decide)
theorem NH_pos : 0 < NH := View.dmaCredit_pos _ (by decide)

/-- By how much each duty raises its counter. -/
def amt : Fin 14 → ℕ
  | 0 => 1 | 1 => 1 | 2 => 1
  | 3 => NX | 4 => NA | 5 => NX | 6 => NA
  | 7 => NX | 8 => NX
  | 9 => NX | 10 => NX | 11 => NH | 12 => NX | 13 => NH

theorem amt_pos : ∀ k, 0 < amt k
  | 0 => Nat.one_pos | 1 => Nat.one_pos | 2 => Nat.one_pos
  | 3 => NX_pos | 4 => NA_pos | 5 => NX_pos | 6 => NA_pos
  | 7 => NX_pos | 8 => NX_pos
  | 9 => NX_pos | 10 => NX_pos | 11 => NH_pos | 12 => NX_pos | 13 => NH_pos

/-- What comes to device `c` with a raise of its counter. -/
def pay (c : Dev nD) (k : Fin 14) (d : Bool) : sProp 𝕄 :=
  match k with
  | 0 => iprop((∃ f, pts m220 (px c) f) ∗ (∃ f, pts m221 (px c) f) ∗ reached ER (cell (px c) 5) 0 ∗ reached ER (cell (px c) 6) 0)
  | 1 => iprop((∃ f, pts m25 (px c) f) ∗ reached ER (cell (px c) 8) 0)
  | 2 => if d then iprop((∃ f, pts (half c) (py c) f) ∗ reached ER (cell (py c) 13) 0)
      else iprop((∃ f, pts (blk c) (pz c) f) ∗ reached ER (cell (pz c) 12) 0)
  | 3 => pts m15 c (D.x c)
  | 4 => pts m21 c (D.a c)
  | 5 => pts m220 c (D.x (px c))
  | 6 => pts m221 c (D.a (px c))
  | 7 => pts m24 c (D.rem c)
  | 8 => pts m25 c (D.rem (px c))
  | 9 => iprop(pts (blk c) c (gath D c) ∗ pts m26 c (D.out c))
  | 10 => pts (blk c) c (gath D c)
  | 11 => pts (half c) c (gath D c)
  | 12 => pts (blk (pz c)) c (gath D c)
  | 13 => pts (half (py c)) c (gath D c)

set_option synthInstance.maxHeartbeats 400000 in
set_option maxHeartbeats 1000000 in
theorem pay_storable (c : Dev nD) (k : Fin 14) (d : Bool) : BI.Storable (upEmb : UEmb _ 𝕄) (pay D c k d) := by
  fin_cases k <;> (dsimp only [pay]; (repeat' split) <;> infer_instance)

/-- The duties of a counter: one, and two at the third barrier, one from each of two neighbours. -/
def dut (k : Fin 14) : Finset Bool := if k = 2 then {false, true} else {false}

/-- One round on every cell. -/
def rd : Rounds.Schedule (GSem nD τ sig) Bool 𝕄 where
  duties g r := if r = 0 ∧ g.1.2 = .tc then (match kind g.2 with | some k => dut k | none => ∅) else ∅
  unitless _ := False
  amount g _ _ := match kind g.2 with | some k => amt k | none => 1
  payload g _ d := match kind g.2 with | some k => pay D g.1.1 k d | none => iprop(emp)
  amount_pos g _ _ _ := by
    split
    · exact amt_pos _
    · exact Nat.one_pos

instance rd_storable (g : GSem nD τ sig) (r : ℕ) (d : Bool) : BI.Storable (upEmb : UEmb _ 𝕄) ((rd D).payload g r d) := by
  show BI.Storable upEmb (match kind g.2 with | some k => pay D g.1.1 k d | none => iprop(emp))
  split
  · exact pay_storable D _ _ _
  · infer_instance

section Sched
variable (c : Dev nD) (k : Fin 14)

theorem duties_eq : (rd D).duties (cell c k) 0 = dut k := by
  dsimp only [rd]; rw [if_pos ⟨rfl, rfl⟩, kind_sm]
theorem duties_later (g : GSem nD τ sig) : ∀ r, 1 ≤ r → (rd D).duties g r = ∅ :=
  fun r hr => by dsimp only [rd]; rw [if_neg (fun h => by omega)]
theorem amount_eq (r : ℕ) (d : Bool) : (rd D).amount (cell c k) r d = amt k := by dsimp only [rd]; rw [kind_sm]
theorem payload_eq (r : ℕ) (d : Bool) : (rd D).payload (cell c k) r d = pay D c k d := by dsimp only [rd]; rw [kind_sm]

theorem expect_one (h : k ≠ 2) : (rd D).expect (cell c k) 0 = amt k := by
  unfold Schedule.expect Schedule.amountOf
  rw [duties_eq, dut, if_neg h, Finset.sum_singleton, amount_eq]
theorem expect_two : (rd D).expect (cell c 2) 0 = 2 := by
  unfold Schedule.expect Schedule.amountOf
  rw [duties_eq, dut, if_pos rfl, Finset.sum_pair (by decide), amount_eq]; rfl
theorem rest_one (h : k ≠ 2) :
    bigSep ((rd D).duties (cell c k) 0 \ ∅) (fun d => (rd D).payload (cell c k) 0 d) = pay D c k false := by
  rw [Finset.sdiff_empty, duties_eq, dut, if_neg h, bigSep_singleton, payload_eq]
theorem rest_two :
    bigSep ((rd D).duties (cell c 2) 0 \ ∅) (fun d => (rd D).payload (cell c 2) 0 d) = iprop(pay D c 2 false ∗ pay D c 2 true) := by
  rw [Finset.sdiff_empty, duties_eq, dut, if_pos rfl, bigSep_insert (by decide), bigSep_singleton, payload_eq, payload_eq]; rfl
theorem mem_one (h : k ≠ 2) : false ∈ (rd D).duties (cell c k) 0 := by
  rw [duties_eq, dut, if_neg h]; exact Finset.mem_singleton_self _
theorem mem_two (d : Bool) : d ∈ (rd D).duties (cell c 2) 0 := by
  rw [duties_eq, dut, if_pos rfl]; cases d <;> decide
end Sched

/-! ## What a device owes -/

/-- The nine raises a device makes of others' counters, in the order it makes them: the cell's kind, -/
def kk : Fin 9 → Fin 14 | 0 => 0 | 1 => 5 | 2 => 6 | 3 => 1 | 4 => 8 | 5 => 2 | 6 => 2 | 7 => 12 | 8 => 13
/-- and whose it is. -/
def own (i : Fin 9) (c : Dev nD) : Dev nD :=
  match i with | 0 => px c | 1 => px c | 2 => px c | 3 => px c | 4 => px c | 5 => pz c | 6 => py c | 7 => pz c | 8 => py c
theorem own_own (i : Fin 9) (c : Dev nD) : own i (own i c) = c := by
  fin_cases i <;> first | exact px_px c | exact py_py c | exact pz_pz c

def due (i : Fin 9) (c : Dev nD) : CellTallies nD τ sig Unit := tallyAt (cell (own i c) (kk i)) () (amt (kk i))

/-- What is owed once only the listed raises are left. -/
def owe : List (Fin 9) → Dev nD → CellTallies nD τ sig Unit
  | [], _ => 0
  | i :: l, c => owe l c + due i c

theorem owe_pos {l : List (Fin 9)} {c : Dev nD} {g : GSem nD τ sig} {u : Unit} (h : 0 < owe l c g u) :
    ∃ i ∈ l, g = cell (own i c) (kk i) := by
  induction l with
  | nil => exact absurd h (Nat.lt_irrefl 0)
  | cons i l ih =>
    have h : 0 < (owe l c + due i c) g u := h
    rw [Pi.add_apply, Finsupp.add_apply] at h
    rcases Nat.add_pos_iff_pos_or_pos.mp h with h | h
    · obtain ⟨j, hj, e⟩ := ih h; exact ⟨j, List.mem_cons_of_mem _ hj, e⟩
    · unfold due at h; rw [tallyAt_apply] at h
      split at h
      · next hg => exact ⟨i, List.mem_cons_self, hg.1⟩
      · exact absurd h (Nat.lt_irrefl 0)

/-- What is owed at each of the four stages of the program. -/
abbrev O0 : Dev nD → CellTallies nD τ sig Unit := owe [0, 1, 2, 3, 4, 5, 6, 7, 8]
abbrev O3 : Dev nD → CellTallies nD τ sig Unit := owe [3, 4, 5, 6, 7, 8]
abbrev O5 : Dev nD → CellTallies nD τ sig Unit := owe [5, 6, 7, 8]

/-! ## Levels: a device waits on a counter only while what it owes lies higher -/

def L (g : GSem nD τ sig) : Finset Unit := if g.1.2 = .tc then {()} else ∅
def lvl : Fin 14 → ℕ
  | 0 => 1 | 5 => 2 | 6 => 2 | 1 => 3 | 8 => 4 | 2 => 5 | 12 => 6 | 13 => 7 | _ => 0
def lv (g : GSem nD τ sig) (_ : Unit) : ℕ := match kind g.2 with | some k => lvl k | none => 0

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (k : Fin 14) (u : Unit) : lv (cell c k) u = lvl k := by unfold lv; rw [kind_sm]

theorem owe_level {l : List (Fin 9)} {c : Dev nD} {b : ℕ} (hb : ∀ i ∈ l, b < lvl (kk i)) {g : GSem nD τ sig} {u : Unit}
    (h : 0 < owe l c g u) : u ∈ L g ∧ b < lv g u := by
  obtain ⟨i, hi, rfl⟩ := owe_pos h
  rw [L_tc, lv_cell]; exact ⟨Finset.mem_singleton_self _, hb i hi⟩

theorem mayWait (l : List (Fin 9)) (c : Dev nD) (k : Fin 14) (h : ∀ i ∈ l, lvl k < lvl (kk i)) :
    (levAts L lv : sProp 𝕄) ⊢ MayWait (c : Thread nD τ) (sm k) () (owe l c) :=
  MayOwe.of_cut (L := L) (lev := lv) (lvl k) (fun p hp => by rw [Finset.mem_singleton.mp hp, L_tc]; exact Finset.mem_singleton_self _)
    (fun g u hg => (owe_level h hg).1)
    (fun p hp => by rw [Finset.mem_singleton.mp hp]; exact (lv_cell c k ()).le)
    (fun g u hg => (owe_level h hg).2)

/-! ## Records and rights -/

/-- Every cell's invariant, at the names the launch gave; and that the barriers' first round is reached. -/
def recs : sProp 𝕄 :=
  iprop(∃ κ : GSem nD τ sig → ℕ, (bigSep Finset.univ fun ck : Dev nD × Fin 14 => cellInv ER (rd D) (κ (cell ck.1 ck.2)) (cell ck.1 ck.2))
    ∗ bigSep Finset.univ fun ck : Dev nD × Fin 3 => reached ER (cell ck.1 (ck.2.castLE (by decide))) 0)

instance recs_persistent : BI.Persistent (recs D) := by unfold recs; infer_instance

theorem inv_at (κ : GSem nD τ sig → ℕ) (c : Dev nD) (k : Fin 14) :
    (bigSep Finset.univ fun ck : Dev nD × Fin 14 => (cellInv ER (rd D) (κ (cell ck.1 ck.2)) (cell ck.1 ck.2) : sProp 𝕄))
      ⊢ cellInv ER (rd D) (κ (cell c k)) (cell c k) :=
  bigSep_elim (Φ := fun ck : Dev nD × Fin 14 => (cellInv ER (rd D) (κ (cell ck.1 ck.2)) (cell ck.1 ck.2) : sProp 𝕄)) (Finset.mem_univ (c, k))
theorem reached_at (c : Dev nD) (k : Fin 3) :
    (bigSep Finset.univ fun ck : Dev nD × Fin 3 => (reached ER (cell ck.1 (ck.2.castLE (by decide))) 0 : sProp 𝕄))
      ⊢ reached ER (cell c (k.castLE (by decide))) 0 :=
  bigSep_elim (Φ := fun ck : Dev nD × Fin 3 => (reached ER (cell ck.1 (ck.2.castLE (by decide))) 0 : sProp 𝕄)) (Finset.mem_univ (c, k))

theorem close (κ : ℕ) (g : GSem nD τ sig) :
    iprop(cellInv ER (rd D) κ g ∗ atPos ER g (0 + 1) ∅ 0) ⊢ (|={Set.univ}=> semVal g 0 : sProp 𝕄) :=
  Rounds.cell_close ER (rd D) (Set.mem_univ κ) id (duties_later D g)

abbrev at0 (c : Dev nD) (k : Fin 14) : sProp 𝕄 := atPos ER (cell c k) 0 ∅ 0
abbrev rch (c : Dev nD) (k : Fin 14) : sProp 𝕄 := reached ER (cell c k) 0
abbrev tok (c : Dev nD) (k : Fin 14) (d : Bool) : sProp 𝕄 := dutyTok ER (cell c k) 0 d
abbrev crd (c : Dev nD) (k : Fin 14) (n : ℕ) : sProp 𝕄 := cred (tallyAt (cell c k) () n)
abbrev val0 (c : Dev nD) (k : Fin 14) : sProp 𝕄 := semVal (cell c k) 0

abbrev 𝒱₀ : Variants := Variants.none

/-! ## What a landed copy leaves -/

/-- A copy between two views of one shape into buffers of the same array: where the target takes what the source had, the
    target holds what the source holds. -/
theorem landed_same {s : Shape} {e : EltTy} (M : Memref sig .tc .hbm s e) (fd f : M.view.ty.Contents (Elt F)) :
    ∀ i ∈ M.view.set, M.view.write (Elt F) fd (M.view.read (Elt F) f) Finset.univ i = f i := by
  intro i hi
  obtain ⟨j, -, rfl⟩ := Finset.mem_map.mp hi
  rw [View.write_emb_of_mem _ _ (Finset.mem_univ _), View.read_apply, cast_cast, cast_eq]

theorem off1_val (d : Dev nD) : (k5_off1 d) 0 = 2048 * ((d.val / 2) % 2) + 1024 * (d.val % 2) := by rw [k5_off1_eq]; rfl
theorem off1_val1 (d : Dev nD) : (k5_off1 d) 1 = 0 := by rw [k5_off1_eq]; rfl
theorem off2_val (d : Dev nD) : (k5_off2 d) 0 = 2048 * ((d.val / 2) % 2) := by rw [k5_off2_eq]; rfl
theorem off2_val1 (d : Dev nD) : (k5_off2 d) 1 = 0 := by rw [k5_off2_eq]; rfl

/-- The device's own rows of the gathered result are its finished rows. -/
theorem landed_own (c : Dev nD) (fd : (main_v27 : Ref sig .tc).ty.Contents (Elt F)) :
    ∀ i ∈ (blk c).view.set, (blk c).view.write (Elt F) fd (m26.view.read (Elt F) (D.out c)) Finset.univ i = gath D c i := by
  intro i hi
  obtain ⟨j, -, rfl⟩ := Finset.mem_map.mp hi
  rw [View.write_emb_of_mem _ _ (Finset.mem_univ _)]
  have e0 : (((blk c).view.emb j) 0).val = k5_off1 c 0 + (j 0).val := by
    show k5_off1 c 0 + 1 * (j 0).val = _; omega
  have e1 : (((blk c).view.emb j) 1).val = (j 1).val := by
    show k5_off1 c 1 + 1 * (j 1).val = _; rw [off1_val1]; omega
  have hj : (j 0).val < 1024 := (j 0).isLt
  have hc : c.val < 8 := c.isLt
  rw [off1_val] at e0
  have hd : mate c ⟨(((blk c).view.emb j) 0).val / 1024, Nat.div_lt_of_lt_mul (((blk c).view.emb j) 0).isLt⟩ = c :=
    Fin.ext (by show 4 * (c.val / 4) + (((blk c).view.emb j) 0).val / 1024 = c.val; rw [e0]; omega)
  show D.out c j = gath D c ((blk c).view.emb j)
  unfold gath
  rw [hd]
  congr 1
  funext a
  match a with
  | 0 => exact Fin.ext (by show (j 0).val = (((blk c).view.emb j) 0).val % 1024; rw [e0]; omega)
  | 1 => exact Fin.ext e1.symm

/-! ## The rows of the gathered result, apart -/

theorem mem_blk (d : Dev nD) (i : (main_v27 : Ref sig .tc).ty.Idx) :
    i ∈ (blk d).view.set ↔ 2048 * ((d.val / 2) % 2) + 1024 * (d.val % 2) ≤ (i 0).val ∧ (i 0).val < 2048 * ((d.val / 2) % 2) + 1024 * (d.val % 2) + 1024 := by
  constructor
  · intro hi
    obtain ⟨j, -, rfl⟩ := Finset.mem_map.mp hi
    have e0 : (((blk d).view.emb j) 0).val = k5_off1 d 0 + (j 0).val := by
      show k5_off1 d 0 + 1 * (j 0).val = _; omega
    have hj : (j 0).val < 1024 := (j 0).isLt
    rw [off1_val] at e0; rw [e0]; omega
  · intro h
    have hi1 : (i 1).val < 2048 := (i 1).isLt
    refine Finset.mem_map.mpr ⟨(fun | 0 => ⟨(i 0).val - (2048 * ((d.val / 2) % 2) + 1024 * (d.val % 2)), by show _ < 1024; omega⟩ | 1 => ⟨(i 1).val, hi1⟩ : S1024x2048.Idx), Finset.mem_univ _, ?_⟩
    funext a
    match a with
    | 0 => exact Fin.ext (by show k5_off1 d 0 + 1 * ((i 0).val - _) = (i 0).val; rw [off1_val]; omega)
    | 1 => exact Fin.ext (by show k5_off1 d 1 + 1 * (i 1).val = (i 1).val; rw [off1_val1]; omega)

theorem mem_half (d : Dev nD) (i : (main_v27 : Ref sig .tc).ty.Idx) :
    i ∈ (half d).view.set ↔ 2048 * ((d.val / 2) % 2) ≤ (i 0).val ∧ (i 0).val < 2048 * ((d.val / 2) % 2) + 2048 := by
  constructor
  · intro hi
    obtain ⟨j, -, rfl⟩ := Finset.mem_map.mp hi
    have e0 : (((half d).view.emb j) 0).val = k5_off2 d 0 + (j 0).val := by
      show k5_off2 d 0 + 1 * (j 0).val = _; omega
    have hj : (j 0).val < 2048 := (j 0).isLt
    rw [off2_val] at e0; rw [e0]; omega
  · intro h
    have hi1 : (i 1).val < 2048 := (i 1).isLt
    refine Finset.mem_map.mpr ⟨(fun | 0 => ⟨(i 0).val - 2048 * ((d.val / 2) % 2), by show _ < 2048; omega⟩ | 1 => ⟨(i 1).val, hi1⟩ : S2048x2048.Idx), Finset.mem_univ _, ?_⟩
    funext a
    match a with
    | 0 => exact Fin.ext (by show k5_off2 d 0 + 1 * ((i 0).val - _) = (i 0).val; rw [off2_val]; omega)
    | 1 => exact Fin.ext (by show k5_off2 d 1 + 1 * (i 1).val = (i 1).val; rw [off2_val1]; omega)

theorem half_eq (c : Dev nD) : (half c).view.set = ((blk c).view.set ∪ (blk (pz c)).view.set : Finset (main_v27 : Ref sig .tc).ty.Idx) := by
  ext i
  rw [Finset.mem_union, mem_half, mem_blk, mem_blk]
  have h : (pz c).val = (4 * (c.val / 4) + 2 * ((c.val / 2) % 2) + 1) - c.val % 2 := rfl
  have hc : c.val < 8 := c.isLt
  omega
theorem blk_disj (c : Dev nD) : Disjoint ((blk c).view.set : Finset (main_v27 : Ref sig .tc).ty.Idx) (blk (pz c)).view.set := by
  rw [Finset.disjoint_left]; intro i
  rw [mem_blk, mem_blk]
  have h : (pz c).val = (4 * (c.val / 4) + 2 * ((c.val / 2) % 2) + 1) - c.val % 2 := rfl
  have hc : c.val < 8 := c.isLt
  omega
theorem whole_eq (c : Dev nD) : (Finset.univ : Finset (main_v27 : Ref sig .tc).ty.Idx) = (half c).view.set ∪ (half (py c)).view.set := by
  ext i
  rw [Finset.mem_union, mem_half, mem_half]
  have h : (py c).val = (4 * (c.val / 4) + c.val % 2 + 2) - 2 * ((c.val / 2) % 2) := rfl
  have hi : (i 0).val < 4096 := (i 0).isLt
  have hc : c.val < 8 := c.isLt
  have := Finset.mem_univ i
  constructor
  · intro _; omega
  · intro _; exact this
theorem half_disj (c : Dev nD) : Disjoint ((half c).view.set : Finset (main_v27 : Ref sig .tc).ty.Idx) (half (py c)).view.set := by
  rw [Finset.disjoint_left]; intro i
  rw [mem_half, mem_half]
  have h : (py c).val = (4 * (c.val / 4) + c.val % 2 + 2) - 2 * ((c.val / 2) % 2) := rfl
  have hc : c.val < 8 := c.isLt
  omega

theorem half_join (c : Dev nD) (f : (main_v27 : Ref sig .tc).ty.Contents (Elt F)) :
    (pts (half c) c f : sProp 𝕄) = iprop(pts (blk c) c f ∗ pts (blk (pz c)) c f) := by
  unfold pts
  rw [half_eq]
  have hu : (((c : Thread nD τ).loc main_v27 ↦[(blk c).view.set ∪ (blk (pz c)).view.set]{fullShare} f : sProp 𝕄))
    ⊣⊢ iprop(((c : Thread nD τ).loc main_v27 ↦[(blk c).view.set]{fullShare} f) ∗ (c : Thread nD τ).loc main_v27 ↦[(blk (pz c)).view.set]{fullShare} f) :=
    pointsTo_union (blk_disj c)
  exact BI.equiv_iff.mp ⟨hu.1, hu.2⟩
theorem whole_join (c : Dev nD) (f : (main_v27 : Ref sig .tc).ty.Contents (Elt F)) :
    (pts m27 c f : sProp 𝕄) = iprop(pts (half c) c f ∗ pts (half (py c)) c f) := by
  unfold pts
  rw [show m27.view.set = Finset.univ from View.set_whole _]
  rw [whole_eq c]
  have hu : (((c : Thread nD τ).loc main_v27 ↦[(half c).view.set ∪ (half (py c)).view.set]{fullShare} f : sProp 𝕄))
    ⊣⊢ iprop(((c : Thread nD τ).loc main_v27 ↦[(half c).view.set]{fullShare} f) ∗ (c : Thread nD τ).loc main_v27 ↦[(half (py c)).view.set]{fullShare} f) :=
    pointsTo_union (half_disj c)
  exact BI.equiv_iff.mp ⟨hu.1, hu.2⟩

end Cert.KernelIdeal.Talk

end
-- ==== Proof.Body.lean ====
/- The grid bodies: what one point of the products' grid, and the addition, leave in the output's block. -/
module

public import proofs.«01_k».proof.Proof.Talk
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Acc
public import Idealize.ShloMosaic.Lib.Tactic
public import Idealize.ShloMosaic.Lib.WordCmp

@[expose] public section

set_option maxRecDepth 16384

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

theorem zz : (![0, 0] : Fin 2 → Nat) = fun _ => 0 := funext fun a => by fin_cases a <;> rfl
theorem zzz : (![0, 0, 0] : Fin 3 → Nat) = fun _ => 0 := funext fun a => by fin_cases a <;> rfl

/-- A store of the whole block covers it, whatever was stored before. -/
theorem whole_cover (w : S1024x2048.Idx → Elt F .f32) (L : List (View.Piece (Elt F) S1024x2048 .f32)) :
    ∀ y : S1024x2048.Idx, ∃ p ∈ ((⟨Rect.unit (s := S1024x2048) ![0, 0] S1024x2048.size inb_S1024x2048_S1024x2048_0_0, w⟩ : View.Piece (Elt F) S1024x2048 .f32) :: L), y ∈ p.1.set := by
  intro y
  refine ⟨_, List.mem_cons_self, ?_⟩
  exact View.mem_set_unit_zero (S := S1024x2048) zz inb_S1024x2048_S1024x2048_0_0 y

/-- The point of the grid is its first: the condition under which the body clears its output. -/
abbrev first (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 1000000 in
/-- The body at the first point: the output block ends at one step from zero. -/
theorem moe_first (c : Dev nD) (i : grid1.Coords) (arg2 : Memref sig .tc .vmem S1024x2048 .f32) (harg2 : arg2.IsWhole) (arg3 : Memref sig .tc .vmem S1024x1 .i32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1024x2048 .f32) (harg6 : arg6.IsWhole) (hc : first i)
    (x0 : Vec F S1024x2048 .f32) (x1 : Vec F S1024x1 .i32) (x2 : Vec F S1x2048x512 .f32) (x3 : Vec F S1x512x2048 .f32) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay2 i c x0 x2 x3 x1 (k1_pay1 (F := F)))) -∗ Kt ⟨⟩))
      ⊢ wp frame (wpE (defs₀ (F := F)) 𝒱₀ c none) Set.univ (cc1__moe_body i arg2 harg2 arg3 harg3 arg4 harg4 arg5 harg5 arg6 harg6) Kt := by
  simp only [cc1__moe_body_eq_skeleton]; unfold cc1__moe_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  rw [View.read_writes_eq_canon _ _ _ (whole_cover _ _), View.canon_cons_unit_zero (S := S1024x2048) zz]
  sl_unfold_words
  simp only [View.readAt_eq_ld, hf0, hf1, hf2, hf3, View.ld_unit_zero (S := S1024x2048) zz, View.ld_unit_zero (S := S1024x1) zz, View.ld_unit_zero (S := S1x2048x512) zzz, View.ld_unit_zero (S := S1x512x2048) zzz, View.readCov_unit_zero (S := S1024x2048) _ zz]

set_option maxHeartbeats 1000000 in
/-- The body at a later point: the output block ends one step on from what it held. -/
theorem moe_next (c : Dev nD) (i : grid1.Coords) (arg2 : Memref sig .tc .vmem S1024x2048 .f32) (harg2 : arg2.IsWhole) (arg3 : Memref sig .tc .vmem S1024x1 .i32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1024x2048 .f32) (harg6 : arg6.IsWhole) (hc : ¬first i)
    (x0 : Vec F S1024x2048 .f32) (x1 : Vec F S1024x1 .i32) (x2 : Vec F S1x2048x512 .f32) (x3 : Vec F S1x512x2048 .f32) (x4 : Vec F S1024x2048 .f32) (Kt : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay2 i c x0 x2 x3 x1 x4)) -∗ Kt ⟨⟩))
      ⊢ wp frame (wpE (defs₀ (F := F)) 𝒱₀ c none) Set.univ (cc1__moe_body i arg2 harg2 arg3 harg3 arg4 harg4 arg5 harg5 arg6 harg6) Kt := by
  simp only [cc1__moe_body_eq_skeleton]; unfold cc1__moe_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  rw [View.read_writes_eq_canon _ _ _ (whole_cover _ _), View.canon_cons_unit_zero (S := S1024x2048) zz]
  sl_unfold_words
  simp only [View.readAt_eq_ld, hf0, hf1, hf2, hf3, hf4, View.ld_unit_zero (S := S1024x2048) zz, View.ld_unit_zero (S := S1024x1) zz, View.ld_unit_zero (S := S1x2048x512) zzz, View.ld_unit_zero (S := S1x512x2048) zzz]

set_option maxHeartbeats 1000000 in
/-- The addition's body: the output block ends at the sum of the two input blocks. -/
theorem add_run (c : Dev nD) (arg0 : Memref sig .tc .vmem S1024x2048 .f32) (harg0 : arg0.IsWhole) (arg1 : Memref sig .tc .vmem S1024x2048 .f32) (harg1 : arg1.IsWhole)
    (arg2 : Memref sig .tc .vmem S1024x2048 .f32) (harg2 : arg2.IsWhole) (x0 x1 : Vec F S1024x2048 .f32) (Kt : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (k4_pay1 x0 x1)) -∗ Kt ⟨⟩))
      ⊢ wp frame (wpE (defs₀ (F := F)) 𝒱₀ c none) Set.univ (cc4__add_body arg0 harg0 arg1 harg1 arg2 harg2) Kt := by
  simp only [cc4__add_body_eq_skeleton]; unfold cc4__add_body_skel
  unfold owns
  iintro ⟨⟨%f0, %hf0, H0⟩, ⟨%f1, %hf1, H1⟩, ⟨%d2, %f2, -, H2⟩, Hk⟩
  obtain rfl := harg0.eq_unread hf0; obtain rfl := harg1.eq_unread hf1
  sl_exec
  sl_step
  iapply Hk
  isplitl [H0]
  · iexists _; isplitr; · ipureintro; exact harg0.read_unread _
    iexact H0
  isplitl [H1]
  · iexists _; isplitr; · ipureintro; exact harg1.read_unread _
    iexact H1
  iexists _; isplitr; swap; · iexact H2
  ipureintro
  rw [View.read_writes_eq_canon _ _ _ (whole_cover _ _), View.canon_cons_unit_zero (S := S1024x2048) zz]
  sl_unfold_words
  simp only [View.readAt_eq_ld, hf0, hf1, View.ld_unit_zero (S := S1024x2048) zz]

theorem cc2_eq : cc2__moe_body (F := F) = cc1__moe_body (F := F) := rfl

end Cert.KernelIdeal.Talk

end
-- ==== Proof.Grids.lean ====
/- The grid regions' data: the running sum of the products over the grid's points, and each region's body obligation. -/
module

public import proofs.«01_k».proof.Proof.Body
public import proofs.«01_k».proof.Proof.Gen.KernelIdeal.Skeleton
public import proofs.«01_k».proof.Proof.Gen.KernelIdeal.Regions
public import Idealize.ShloMosaic.Lib.Pipeline.Value

@[expose] public section

set_option maxRecDepth 16384

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The condition on the coordinates, at a point of the grid: the point is number 0. -/
theorem first_iff : ∀ t : Fin grid1.N, first (grid1.coords t) ↔ t.val % 32 = 0 := fun t => by
  have ht : t.val < 32 := Nat.lt_of_lt_of_eq t.isLt N_1
  have e0 : (grid1.coords t 0).val = t.val / 8 % 4 := Pipeline.Grid.coords_val t 0 (by decide) rfl
  have e1 : (grid1.coords t 1).val = t.val / 1 % 8 := Pipeline.Grid.coords_val t 1 (by decide) rfl
  simp only [first, e0, e1]
  word_cmp

/-- The running sum after point `n`: one step of the body over the sum before it, from zero. -/
def acc (c : Dev nD) (x0 : Fin grid1.N → Vec F S1024x2048 .f32) (x1 : Fin grid1.N → Vec F S1024x1 .i32)
    (x2 : Fin grid1.N → Vec F S1x2048x512 .f32) (x3 : Fin grid1.N → Vec F S1x512x2048 .f32) : (n : ℕ) → n < grid1.N → Vec F S1024x2048 .f32
  | 0, h => k1_pay2 (grid1.coords ⟨0, h⟩) c (x0 ⟨0, h⟩) (x2 ⟨0, h⟩) (x3 ⟨0, h⟩) (x1 ⟨0, h⟩) (k1_pay1 (F := F))
  | n + 1, h => k1_pay2 (grid1.coords ⟨n + 1, h⟩) c (x0 ⟨n + 1, h⟩) (x2 ⟨n + 1, h⟩) (x3 ⟨n + 1, h⟩) (x1 ⟨n + 1, h⟩) (acc c x0 x1 x2 x3 n (Nat.lt_of_succ_lt h))

theorem acc_first (c : Dev nD) (x0 : Fin grid1.N → Vec F S1024x2048 .f32) (x1 : Fin grid1.N → Vec F S1024x1 .i32)
    (x2 : Fin grid1.N → Vec F S1x2048x512 .f32) (x3 : Fin grid1.N → Vec F S1x512x2048 .f32) (t : Fin grid1.N) (h0 : t.val = 0) :
    acc c x0 x1 x2 x3 t.val t.isLt = k1_pay2 (grid1.coords t) c (x0 t) (x2 t) (x3 t) (x1 t) (k1_pay1 (F := F)) := by
  obtain ⟨n, hn⟩ := t
  cases n with
  | zero => rfl
  | succ n => exact absurd h0 (Nat.succ_ne_zero n)

theorem acc_next (c : Dev nD) (x0 : Fin grid1.N → Vec F S1024x2048 .f32) (x1 : Fin grid1.N → Vec F S1024x1 .i32)
    (x2 : Fin grid1.N → Vec F S1x2048x512 .f32) (x3 : Fin grid1.N → Vec F S1x512x2048 .f32) (t : Fin grid1.N) (h0 : t.val ≠ 0) :
    acc c x0 x1 x2 x3 t.val t.isLt = k1_pay2 (grid1.coords t) c (x0 t) (x2 t) (x3 t) (x1 t)
      (acc c x0 x1 x2 x3 (t.val - 1) (Nat.lt_of_le_of_lt (Nat.sub_le _ _) t.isLt)) := by
  obtain ⟨n, hn⟩ := t
  cases n with
  | zero => exact absurd rfl h0
  | succ n => rfl

theorem last_lt : 31 < grid1.N := by rw [N_1]; decide

/-- The products' sum over the whole grid, of rows `X`, their experts `A` and the two arrays of weights. -/
def moe (c : Dev nD) (X : (main_v15 : Ref sig .tc).ty.Contents (Elt F)) (A : (main_v21 : Ref sig .tc).ty.Contents (Elt F))
    (W1 : (main_arg2 : Ref sig .tc).ty.Contents (Elt F)) (W2 : (main_arg3 : Ref sig .tc).ty.Contents (Elt F)) : Vec F S1024x2048 .f32 :=
  acc c (fun t => (win1_0.blk t).view.read (Elt F) X) (fun t => (win1_1.blk t).view.read (Elt F) A)
    (fun t => (win1_2.blk t).view.read (Elt F) W1) (fun t => (win1_3.blk t).view.read (Elt F) W2) 31 last_lt

variable (V : Dev nD → Valuation τ sig (Elt F))

/-! ### Region 1 -/

/-- The block of window `w` at point `t`, of the array as the region finds it. -/
def iblk1 (c : Dev nD) (w : Fin cfg1.W) (t : Fin cfg1.N) : ((cfg1.win w).xblock (grid1.coords t)).Idx → Elt F (cfg1.win w).elt :=
  ((cfg1.win w).blk t).view.read (Elt F) (V c (Pipeline.arrRef spec1 w))

/-- The running sum of region 1. -/
abbrev sum1 (c : Dev nD) : (n : ℕ) → n < grid1.N → Vec F S1024x2048 .f32 :=
  acc c (fun t => iblk1 V c 0 t) (fun t => iblk1 V c 1 t) (fun t => iblk1 V c 2 t) (fun t => iblk1 V c 3 t)

def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => sum1 V c t.val t.isLt
  Φ _ := Pipeline.ΦA spec1 c
  q _ := fullShare
  owed _ := O3 c

theorem A1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1]; try rfl) t d).trans
    (by unfold Dat.fetched Dat.blockOf iblk1; rw [A1]; try rfl)
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1]; try rfl) t d).trans
    (by unfold Dat.fetched Dat.blockOf iblk1; rw [A1]; try rfl)
theorem after1_4 (c : Dev nD) (t : Fin cfg1.N) : (dat1 V c).after 4 t = sum1 V c t.val t.isLt := by dsimp only [dat1]

theorem N1' : cfg1.N = 32 := N_1

/-- At a later point the output's buffer still holds the sum before it. -/
theorem before1_4 (c : Dev nD) (t : Fin cfg1.N) (h0 : t.val ≠ 0) (d) :
    (dat1 V c).before 4 t d = sum1 V c (t.val - 1) (Nat.lt_of_le_of_lt (Nat.sub_le _ _) t.isLt) := by
  rw [(dat1 V c).before_out_kept 4 rfl t h0 ?_ (fun _ => rfl) (fun _ _ => rfl) d, after1_4]
  have hN : t.val < 32 := lt_of_lt_of_eq t.isLt N1'
  cases hf : (cfg1.win 4).flush ⟨t.val - 1, Nat.lt_of_le_of_lt (Nat.sub_le _ _) t.isLt⟩ with
  | false => rfl
  | true => have h31 : (t.val - 1) % 32 = 31 := (flush1_4 _).mp hf; omega

/-- The body as the region's table calls it at point `t`. -/
abbrev bodyAt1 (t : Fin cfg1.N) : Prog (TpuEff nD τ sig (Elt F) Λ₀ .tc) PUnit :=
  cc1__moe_body (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4))

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t))

set_option maxHeartbeats 1000000 in
theorem sound1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 32 := lt_of_lt_of_eq t.isLt N1'
  by_cases h0 : t.val = 0
  · rw [show sum1 V c t.val t.isLt = _ from acc_first c _ _ _ _ t h0]
    iintro ⟨HΦ, Ho, ⟨%d0, H0⟩, ⟨%d1, H1⟩, ⟨%d2, H2⟩, ⟨%d3, H3⟩, ⟨%d4, H4⟩⟩
    iapply (moe_first c (grid1.coords t) _ _ _ _ _ _ _ _ _ _ ((first_iff t).mpr (by omega)) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [show sum1 V c t.val t.isLt = _ from acc_next c _ _ _ _ t h0]
    simp only [before1_4 V c t h0]
    iintro ⟨HΦ, Ho, ⟨%d0, H0⟩, ⟨%d1, H1⟩, ⟨%d2, H2⟩, ⟨%d3, H3⟩, ⟨%d4, H4⟩⟩
    iapply (moe_next c (grid1.coords t) _ _ _ _ _ _ _ _ _ _ (fun h => h0 (by have := (first_iff t).mp h; omega)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row1 (t : Fin cfg1.N) : defs₀ (F := F) .tc cfg1.body (cfg1.bodyArgs t (cfg1.slots t)) = bodyAt1 t := by
  unfold defs₀; rw [Defs.onTc_tc]

theorem ob1 (c : Dev nD) : BodyObligation (dat1 (F := F) V c) (defs₀ (F := F)) 𝒱₀ () Set.univ := fun t => by
  rw [bigSep_W1, bigSep_W1, row1]
  exact triple_restated (sound1 V c t) rfl .rfl fun _ => .rfl

/-- The result array of region 1 ends at the sum over the whole grid. -/
theorem final1 (c : Dev nD) : (dat1 V c).arrAt 4 cfg1.N = sum1 V c 31 last_lt :=
  (dat1 V c).arrAt_eq_of_cover 4 (sum1 V c 31 last_lt) (fun t hf => by
      have h31 : t.val = 31 := by have := (flush1_4 t).mp hf; have := lt_of_lt_of_eq t.isLt N1'; omega
      have ht : t = ⟨31, last_lt⟩ := Fin.ext h31
      show (cfg1.win 4).cut (grid1.coords t) ((dat1 V c).after 4 t) = _
      rw [after1_4, ht]
      have hz' : (fun a => win1_4.index ⟨31, last_lt⟩ a * S1024x2048.size a) = fun _ => 0 := funext fun a => by fin_cases a <;> decide
      exact (Memref.read_access_unit_zero (Elt F) main_v23 hz' (fun a => by rw [congrFun hz' a]; simp) (sum1 V c 31 last_lt)).symm)
    fun i => ⟨⟨31, last_lt⟩, (flush1_4 ⟨31, last_lt⟩).mpr rfl, by
      show i ∈ ((View.whole main_v23).slice (win1_4.rect ⟨31, last_lt⟩)).set
      rw [View.set_slice_whole, Rect.mem_set_unit]
      intro a
      have h0 : (i 0 : Nat) < 1024 := (i 0).isLt
      have h1 : (i 1 : Nat) < 2048 := (i 1).isLt
      match a with
      | ⟨0, _⟩ => exact ⟨Nat.zero_le _, h0⟩
      | ⟨1, _⟩ => exact ⟨Nat.zero_le _, h1⟩⟩

/-! ### Region 2 -/

/-- The block of window `w` at point `t`, of the array as the region finds it. -/
def iblk2 (c : Dev nD) (w : Fin cfg2.W) (t : Fin cfg2.N) : ((cfg2.win w).xblock (grid2.coords t)).Idx → Elt F (cfg2.win w).elt :=
  ((cfg2.win w).blk t).view.read (Elt F) (V c (Pipeline.arrRef spec2 w))

/-- The running sum of region 2. -/
abbrev sum2 (c : Dev nD) : (n : ℕ) → n < grid1.N → Vec F S1024x2048 .f32 :=
  acc c (fun t => iblk2 V c 0 t) (fun t => iblk2 V c 1 t) (fun t => iblk2 V c 2 t) (fun t => iblk2 V c 3 t)

def dat2 (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sum2 V c t.val t.isLt
  Φ _ := Pipeline.ΦA spec2 c
  q _ := fullShare
  owed _ := O3 c

theorem A2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2]; try rfl) t d).trans
    (by unfold Dat.fetched Dat.blockOf iblk2; rw [A2]; try rfl)
theorem after2_1 (c : Dev nD) (t : Fin cfg2.N) : (dat2 V c).after 1 t = iblk2 V c 1 t := by dsimp only [dat2]
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2]; try rfl) t d).trans
    (by unfold Dat.fetched Dat.blockOf iblk2; rw [A2]; try rfl)
theorem after2_2 (c : Dev nD) (t : Fin cfg2.N) : (dat2 V c).after 2 t = iblk2 V c 2 t := by dsimp only [dat2]
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2]; try rfl) t d).trans
    (by unfold Dat.fetched Dat.blockOf iblk2; rw [A2]; try rfl)
theorem after2_3 (c : Dev nD) (t : Fin cfg2.N) : (dat2 V c).after 3 t = iblk2 V c 3 t := by dsimp only [dat2]
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2]; try rfl) t d).trans
    (by unfold Dat.fetched Dat.blockOf iblk2; rw [A2]; try rfl)
theorem after2_4 (c : Dev nD) (t : Fin cfg2.N) : (dat2 V c).after 4 t = sum2 V c t.val t.isLt := by dsimp only [dat2]

theorem N2' : cfg2.N = 32 := N_2

/-- At a later point the output's buffer still holds the sum before it. -/
theorem before2_4 (c : Dev nD) (t : Fin cfg2.N) (h0 : t.val ≠ 0) (d) :
    (dat2 V c).before 4 t d = sum2 V c (t.val - 1) (Nat.lt_of_le_of_lt (Nat.sub_le _ _) t.isLt) := by
  rw [(dat2 V c).before_out_kept 4 rfl t h0 ?_ (fun _ => rfl) (fun _ _ => rfl) d, after2_4]
  have hN : t.val < 32 := lt_of_lt_of_eq t.isLt N2'
  cases hf : (cfg2.win 4).flush ⟨t.val - 1, Nat.lt_of_le_of_lt (Nat.sub_le _ _) t.isLt⟩ with
  | false => rfl
  | true => have h31 : (t.val - 1) % 32 = 31 := (flush2_4 _).mp hf; omega

/-- The body as the region's table calls it at point `t`. -/
abbrev bodyAt2 (t : Fin cfg2.N) : Prog (TpuEff nD τ sig (Elt F) Λ₀ .tc) PUnit :=
  cc2__moe_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4))

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t)
    ∗ owns (c : Thread nD τ) (win2_2.stage (cfg2.slots t 2)) fullShare ((dat2 V c).after 2 t)
    ∗ owns (c : Thread nD τ) (win2_3.stage (cfg2.slots t 3)) fullShare ((dat2 V c).after 3 t)
    ∗ owns (c : Thread nD τ) (win2_4.stage (cfg2.slots t 4)) fullShare ((dat2 V c).after 4 t))

set_option maxHeartbeats 1000000 in
theorem sound2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 32 := lt_of_lt_of_eq t.isLt N2'
  by_cases h0 : t.val = 0
  · rw [show sum2 V c t.val t.isLt = _ from acc_first c _ _ _ _ t h0]; rw [cc2_eq]
    iintro ⟨HΦ, Ho, ⟨%d0, H0⟩, ⟨%d1, H1⟩, ⟨%d2, H2⟩, ⟨%d3, H3⟩, ⟨%d4, H4⟩⟩
    iapply (moe_first c (grid1.coords t) _ _ _ _ _ _ _ _ _ _ ((first_iff t).mpr (by omega)) (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [show sum2 V c t.val t.isLt = _ from acc_next c _ _ _ _ t h0]; rw [cc2_eq]
    simp only [before2_4 V c t h0]
    iintro ⟨HΦ, Ho, ⟨%d0, H0⟩, ⟨%d1, H1⟩, ⟨%d2, H2⟩, ⟨%d3, H3⟩, ⟨%d4, H4⟩⟩
    iapply (moe_next c (grid1.coords t) _ _ _ _ _ _ _ _ _ _ (fun h => h0 (by have := (first_iff t).mp h; omega)) (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row2 (t : Fin cfg2.N) : defs₀ (F := F) .tc cfg2.body (cfg2.bodyArgs t (cfg2.slots t)) = bodyAt2 t := by
  unfold defs₀; rw [Defs.onTc_tc]

theorem ob2 (c : Dev nD) : BodyObligation (dat2 (F := F) V c) (defs₀ (F := F)) 𝒱₀ () Set.univ := fun t => by
  rw [bigSep_W2, bigSep_W2, row2]
  exact triple_restated (sound2 V c t) rfl .rfl fun _ => .rfl

/-- The result array of region 2 ends at the sum over the whole grid. -/
theorem final2 (c : Dev nD) : (dat2 V c).arrAt 4 cfg2.N = sum2 V c 31 last_lt :=
  (dat2 V c).arrAt_eq_of_cover 4 (sum2 V c 31 last_lt) (fun t hf => by
      have h31 : t.val = 31 := by have := (flush2_4 t).mp hf; have := lt_of_lt_of_eq t.isLt N2'; omega
      have ht : t = ⟨31, last_lt⟩ := Fin.ext h31
      show (cfg2.win 4).cut (grid2.coords t) ((dat2 V c).after 4 t) = _
      rw [after2_4, ht]
      have hz' : (fun a => win2_4.index ⟨31, last_lt⟩ a * S1024x2048.size a) = fun _ => 0 := funext fun a => by fin_cases a <;> decide
      exact (Memref.read_access_unit_zero (Elt F) main_v24 hz' (fun a => by rw [congrFun hz' a]; simp) (sum2 V c 31 last_lt)).symm)
    fun i => ⟨⟨31, last_lt⟩, (flush2_4 ⟨31, last_lt⟩).mpr rfl, by
      show i ∈ ((View.whole main_v24).slice (win2_4.rect ⟨31, last_lt⟩)).set
      rw [View.set_slice_whole, Rect.mem_set_unit]
      intro a
      have h0 : (i 0 : Nat) < 1024 := (i 0).isLt
      have h1 : (i 1 : Nat) < 2048 := (i 1).isLt
      match a with
      | ⟨0, _⟩ => exact ⟨Nat.zero_le _, h0⟩
      | ⟨1, _⟩ => exact ⟨Nat.zero_le _, h1⟩⟩

/-! ### Region 4 -/

/-- The block of window `w` at point `t`, of the array as the region finds it. -/
def iblk4 (c : Dev nD) (w : Fin cfg4.W) (t : Fin cfg4.N) : ((cfg4.win w).xblock (grid4.coords t)).Idx → Elt F (cfg4.win w).elt :=
  ((cfg4.win w).blk t).view.read (Elt F) (V c (Pipeline.arrRef spec4 w))

def dat4 (c : Dev nD) : Dat τ (Elt F) Unit ℕ UU ℕ cfg4 c where
  A w := V c (Pipeline.arrRef spec4 w)
  after w t := match w with
    | ⟨0, _⟩ => iblk4 V c 0 t
    | ⟨1, _⟩ => iblk4 V c 1 t
    | ⟨2, _⟩ => k4_pay1 (F := F) (iblk4 V c 0 t) (iblk4 V c 1 t)
  Φ _ := Pipeline.ΦA spec4 c
  q _ := fullShare
  owed _ := O5 c

theorem A4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (F := F) (iblk4 V c 0 t) (iblk4 V c 1 t) := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A4]; try rfl) t d).trans
    (by unfold Dat.fetched Dat.blockOf iblk4; rw [A4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A4]; try rfl) t d).trans
    (by unfold Dat.fetched Dat.blockOf iblk4; rw [A4]; try rfl)

abbrev bodyAt4 (t : Fin cfg4.N) : Prog (TpuEff nD τ sig (Elt F) Λ₀ .tc) PUnit :=
  cc4__add_body (win4_0.stage (cfg4.slots t 0)) (hstage4_0 0) (win4_1.stage (cfg4.slots t 1)) (hstage4_1 0) (win4_2.stage (cfg4.slots t 2)) (hstage4_2 0)

def bodyPre4 (c : Dev nD) (t : Fin cfg4.N) : sProp 𝕄 :=
  iprop((dat4 V c).Φ t.castSucc ∗ (dat4 V c).owesAt () t.castSucc
    ∗ (∃ d, owns (c : Thread nD τ) (win4_0.stage (cfg4.slots t 0)) fullShare ((dat4 V c).before 0 t d))
    ∗ (∃ d, owns (c : Thread nD τ) (win4_1.stage (cfg4.slots t 1)) fullShare ((dat4 V c).before 1 t d))
    ∗ (∃ d, owns (c : Thread nD τ) (win4_2.stage (cfg4.slots t 2)) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (win4_0.stage (cfg4.slots t 0)) fullShare ((dat4 V c).after 0 t)
    ∗ owns (c : Thread nD τ) (win4_1.stage (cfg4.slots t 1)) fullShare ((dat4 V c).after 1 t)
    ∗ owns (c : Thread nD τ) (win4_2.stage (cfg4.slots t 2)) fullShare ((dat4 V c).after 2 t))

set_option maxHeartbeats 1000000 in
theorem sound4 (c : Dev nD) (t : Fin cfg4.N) :
    bodyPre4 V c t ⊢ wp frame (wpE (defs₀ (F := F)) 𝒱₀ c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl, after4_0, after4_1, after4_2]
  iintro ⟨HΦ, Ho, ⟨%d0, H0⟩, ⟨%d1, H1⟩, ⟨%d2, H2⟩⟩
  iapply (add_run c _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row4 (t : Fin cfg4.N) : defs₀ (F := F) .tc cfg4.body (cfg4.bodyArgs t (cfg4.slots t)) = bodyAt4 t := by
  unfold defs₀; rw [Defs.onTc_tc]

theorem ob4 (c : Dev nD) : BodyObligation (dat4 (F := F) V c) (defs₀ (F := F)) 𝒱₀ () Set.univ := fun t => by
  rw [bigSep_W4, bigSep_W4, row4]
  exact triple_restated (sound4 V c t) rfl .rfl fun _ => .rfl

/-- The result array of the addition: the sum of the two arrays as the region finds them. -/
theorem final4 (c : Dev nD) : (dat4 V c).arrAt 2 cfg4.N = k4_pay1 (F := F) (V c main_v23) (V c main_v25) :=
  (dat4 V c).arrAt_eq_of_cover 2 (k4_pay1 (F := F) (V c main_v23) (V c main_v25)) (fun t hf => by
      obtain rfl := fin_N4 t
      show (cfg4.win 2).cut (grid4.coords t4_0) ((dat4 V c).after 2 t4_0) = _
      rw [after4_2]
      have hz0 : (fun a => win4_0.index t4_0 a * S1024x2048.size a) = fun _ => 0 := funext fun a => by fin_cases a <;> decide
      have hz1 : (fun a => win4_1.index t4_0 a * S1024x2048.size a) = fun _ => 0 := funext fun a => by fin_cases a <;> decide
      have hz2 : (fun a => win4_2.index t4_0 a * S1024x2048.size a) = fun _ => 0 := funext fun a => by fin_cases a <;> decide
      have e0 : (iblk4 V c 0 t4_0 : Vec F S1024x2048 .f32) = V c main_v23 :=
        Memref.read_access_unit_zero (Elt F) main_v23 hz0 (fun a => by rw [congrFun hz0 a]; simp) (V c main_v23)
      have e1 : (iblk4 V c 1 t4_0 : Vec F S1024x2048 .f32) = V c main_v25 :=
        Memref.read_access_unit_zero (Elt F) main_v25 hz1 (fun a => by rw [congrFun hz1 a]; simp) (V c main_v25)
      rw [e0, e1]
      exact (Memref.read_access_unit_zero (Elt F) main_v26 hz2 (fun a => by rw [congrFun hz2 a]; simp) _).symm)
    fun i => ⟨t4_0, flush4_2 t4_0, by
      show i ∈ ((View.whole main_v26).slice (win4_2.rect t4_0)).set
      rw [View.set_slice_whole, Rect.mem_set_unit]
      intro a
      have h0 : (i 0 : Nat) < 1024 := (i 0).isLt
      have h1 : (i 1 : Nat) < 2048 := (i 1).isLt
      match a with
      | ⟨0, _⟩ => exact ⟨Nat.zero_le _, h0⟩
      | ⟨1, _⟩ => exact ⟨Nat.zero_le _, h1⟩⟩

end Cert.KernelIdeal.Talk

end
-- ==== Proof.Contents.lean ====
/- What each device's arrays hold as the program goes: the contents the regions leave, at any start. -/
module

public import proofs.«01_k».proof.Proof.Grids
public import proofs.«01_k».proof.Proof.Gen.KernelIdeal.Skeleton

@[expose] public section

set_option maxRecDepth 16384

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- What device `c` computes for its own rows, -/
def ownSum (c : Dev nD) : Vec F S1024x2048 .f32 :=
  moe c (V1 m c main_v15) (V1 m c main_v21) (m ((c : Thread nD τ).loc main_arg2)) (m ((c : Thread nD τ).loc main_arg3))
/-- and for the rows its neighbour along the first axis sent it. -/
def remSum (c : Dev nD) : Vec F S1024x2048 .f32 :=
  moe c (V1 m (px c) main_v15) (V1 m (px c) main_v21) (m ((c : Thread nD τ).loc main_arg2)) (m ((c : Thread nD τ).loc main_arg3))

/-- The conversation's contents. -/
def vals : Vals F where
  x c := V1 m c main_v15
  a c := V1 m c main_v21
  rem c := remSum m c
  out c := k4_pay1 (F := F) (ownSum m c) (remSum m (px c))

/-- Every array's contents on device `c` once written. -/
def vEnd (c : Dev nD) : Valuation τ sig (Elt F) :=
  Function.update (Function.update (Function.update (Function.update (Function.update (Function.update (Function.update (V1 m c)
    main_v22_0 ((vals m).x (px c))) main_v22_1 ((vals m).a (px c))) main_v23 (ownSum m c)) main_v24 ((vals m).rem c))
    main_v25 ((vals m).rem (px c))) main_v26 ((vals m).out c)) main_v27 (gath (vals m) c)

/-- What the regions leave: each array is written once. -/
def outs : Outs (F := F) := fun _ r c => vEnd m c r

theorem end_v15 (c : Dev nD) : vEnd m c main_v15 = (vals m).x c := by
  unfold vEnd; rw [Function.update_of_ne (StableHlo.devRef_ne_of_ne (by decide) : (Proc.devRef .tc main_v15 : DevRef τ sig) ≠ Proc.devRef .tc main_v27), Function.update_of_ne (StableHlo.devRef_ne_of_ne (by decide) : (Proc.devRef .tc main_v15 : DevRef τ sig) ≠ Proc.devRef .tc main_v26), Function.update_of_ne (StableHlo.devRef_ne_of_ne (by decide) : (Proc.devRef .tc main_v15 : DevRef τ sig) ≠ Proc.devRef .tc main_v25), Function.update_of_ne (StableHlo.devRef_ne_of_ne (by decide) : (Proc.devRef .tc main_v15 : DevRef τ sig) ≠ Proc.devRef .tc main_v24), Function.update_of_ne (StableHlo.devRef_ne_of_ne (by decide) : (Proc.devRef .tc main_v15 : DevRef τ sig) ≠ Proc.devRef .tc main_v23), Function.update_of_ne (StableHlo.devRef_ne_of_ne (by decide) : (Proc.devRef .tc main_v15 : DevRef τ sig) ≠ Proc.devRef .tc main_v22_1), Function.update_of_ne (StableHlo.devRef_ne_of_ne (by decide) : (Proc.devRef .tc main_v15 : DevRef τ sig) ≠ Proc.devRef .tc main_v22_0)]; rfl
theorem end_v21 (c : Dev nD) : vEnd m c main_v21 = (vals m).a c := by
  unfold vEnd; rw [Function.update_of_ne (StableHlo.devRef_ne_of_ne (by decide) : (Proc.devRef .tc main_v21 : DevRef τ sig) ≠ Proc.devRef .tc main_v27), Function.update_of_ne (StableHlo.devRef_ne_of_ne (by decide) : (Proc.devRef .tc main_v21 : DevRef τ sig) ≠ Proc.devRef .tc main_v26), Function.update_of_ne (StableHlo.devRef_ne_of_ne (by decide) : (Proc.devRef .tc main_v21 : DevRef τ sig) ≠ Proc.devRef .tc main_v25), Function.update_of_ne (StableHlo.devRef_ne_of_ne (by decide) : (Proc.devRef .tc main_v21 : DevRef τ sig) ≠ Proc.devRef .tc main_v24), Function.update_of_ne (StableHlo.devRef_ne_of_ne (by decide) : (Proc.devRef .tc main_v21 : DevRef τ sig) ≠ Proc.devRef .tc main_v23), Function.update_of_ne (StableHlo.devRef_ne_of_ne (by decide) : (Proc.devRef .tc main_v21 : DevRef τ sig) ≠ Proc.devRef .tc main_v22_1), Function.update_of_ne (StableHlo.devRef_ne_of_ne (by decide) : (Proc.devRef .tc main_v21 : DevRef τ sig) ≠ Proc.devRef .tc main_v22_0)]; rfl
theorem end_v22_0 (c : Dev nD) : vEnd m c main_v22_0 = (vals m).x (px c) := by
  unfold vEnd; rw [Function.update_of_ne (StableHlo.devRef_ne_of_ne (by decide) : (Proc.devRef .tc main_v22_0 : DevRef τ sig) ≠ Proc.devRef .tc main_v27), Function.update_of_ne (StableHlo.devRef_ne_of_ne (by decide) : (Proc.devRef .tc main_v22_0 : DevRef τ sig) ≠ Proc.devRef .tc main_v26), Function.update_of_ne (StableHlo.devRef_ne_of_ne (by decide) : (Proc.devRef .tc main_v22_0 : DevRef τ sig) ≠ Proc.devRef .tc main_v25), Function.update_of_ne (StableHlo.devRef_ne_of_ne (by decide) : (Proc.devRef .tc main_v22_0 : DevRef τ sig) ≠ Proc.devRef .tc main_v24), Function.update_of_ne (StableHlo.devRef_ne_of_ne (by decide) : (Proc.devRef .tc main_v22_0 : DevRef τ sig) ≠ Proc.devRef .tc main_v23), Function.update_of_ne (StableHlo.devRef_ne_of_ne (by decide) : (Proc.devRef .tc main_v22_0 : DevRef τ sig) ≠ Proc.devRef .tc main_v22_1), Function.update_self]
theorem end_v22_1 (c : Dev nD) : vEnd m c main_v22_1 = (vals m).a (px c) := by
  unfold vEnd; rw [Function.update_of_ne (StableHlo.devRef_ne_of_ne (by decide) : (Proc.devRef .tc main_v22_1 : DevRef τ sig) ≠ Proc.devRef .tc main_v27), Function.update_of_ne (StableHlo.devRef_ne_of_ne (by decide) : (Proc.devRef .tc main_v22_1 : DevRef τ sig) ≠ Proc.devRef .tc main_v26), Function.update_of_ne (StableHlo.devRef_ne_of_ne (by decide) : (Proc.devRef .tc main_v22_1 : DevRef τ sig) ≠ Proc.devRef .tc main_v25), Function.update_of_ne (StableHlo.devRef_ne_of_ne (by decide) : (Proc.devRef .tc main_v22_1 : DevRef τ sig) ≠ Proc.devRef .tc main_v24), Function.update_of_ne (StableHlo.devRef_ne_of_ne (by decide) : (Proc.devRef .tc main_v22_1 : DevRef τ sig) ≠ Proc.devRef .tc main_v23), Function.update_self]
theorem end_v23 (c : Dev nD) : vEnd m c main_v23 = ownSum m c := by
  unfold vEnd; rw [Function.update_of_ne (StableHlo.devRef_ne_of_ne (by decide) : (Proc.devRef .tc main_v23 : DevRef τ sig) ≠ Proc.devRef .tc main_v27), Function.update_of_ne (StableHlo.devRef_ne_of_ne (by decide) : (Proc.devRef .tc main_v23 : DevRef τ sig) ≠ Proc.devRef .tc main_v26), Function.update_of_ne (StableHlo.devRef_ne_of_ne (by decide) : (Proc.devRef .tc main_v23 : DevRef τ sig) ≠ Proc.devRef .tc main_v25), Function.update_of_ne (StableHlo.devRef_ne_of_ne (by decide) : (Proc.devRef .tc main_v23 : DevRef τ sig) ≠ Proc.devRef .tc main_v24), Function.update_self]
theorem end_v24 (c : Dev nD) : vEnd m c main_v24 = (vals m).rem c := by
  unfold vEnd; rw [Function.update_of_ne (StableHlo.devRef_ne_of_ne (by decide) : (Proc.devRef .tc main_v24 : DevRef τ sig) ≠ Proc.devRef .tc main_v27), Function.update_of_ne (StableHlo.devRef_ne_of_ne (by decide) : (Proc.devRef .tc main_v24 : DevRef τ sig) ≠ Proc.devRef .tc main_v26), Function.update_of_ne (StableHlo.devRef_ne_of_ne (by decide) : (Proc.devRef .tc main_v24 : DevRef τ sig) ≠ Proc.devRef .tc main_v25), Function.update_self]
theorem end_v25 (c : Dev nD) : vEnd m c main_v25 = (vals m).rem (px c) := by
  unfold vEnd; rw [Function.update_of_ne (StableHlo.devRef_ne_of_ne (by decide) : (Proc.devRef .tc main_v25 : DevRef τ sig) ≠ Proc.devRef .tc main_v27), Function.update_of_ne (StableHlo.devRef_ne_of_ne (by decide) : (Proc.devRef .tc main_v25 : DevRef τ sig) ≠ Proc.devRef .tc main_v26), Function.update_self]
theorem end_v26 (c : Dev nD) : vEnd m c main_v26 = (vals m).out c := by
  unfold vEnd; rw [Function.update_of_ne (StableHlo.devRef_ne_of_ne (by decide) : (Proc.devRef .tc main_v26 : DevRef τ sig) ≠ Proc.devRef .tc main_v27), Function.update_self]
theorem end_v27 (c : Dev nD) : vEnd m c main_v27 = gath (vals m) c := by
  unfold vEnd; rw [Function.update_self]
theorem at2_v15 (c : Dev nD) : V2 m (outs m) c main_v15 = (vals m).x c := by
  unfold V2; rw [Function.update_of_ne (StableHlo.devRef_ne_of_ne (by decide) : (Proc.devRef .tc main_v15 : DevRef τ sig) ≠ Proc.devRef .tc main_v22_1), Function.update_of_ne (StableHlo.devRef_ne_of_ne (by decide) : (Proc.devRef .tc main_v15 : DevRef τ sig) ≠ Proc.devRef .tc main_v22_0), Function.update_of_ne (StableHlo.devRef_ne_of_ne (by decide) : (Proc.devRef .tc main_v15 : DevRef τ sig) ≠ Proc.devRef .tc main_v21), Function.update_self]; exact end_v15 m c
theorem at2_v21 (c : Dev nD) : V2 m (outs m) c main_v21 = (vals m).a c := by
  unfold V2; rw [Function.update_of_ne (StableHlo.devRef_ne_of_ne (by decide) : (Proc.devRef .tc main_v21 : DevRef τ sig) ≠ Proc.devRef .tc main_v22_1), Function.update_of_ne (StableHlo.devRef_ne_of_ne (by decide) : (Proc.devRef .tc main_v21 : DevRef τ sig) ≠ Proc.devRef .tc main_v22_0), Function.update_self]; exact end_v21 m c
theorem at2_v22_0 (c : Dev nD) : V2 m (outs m) c main_v22_0 = (vals m).x (px c) := by
  unfold V2; rw [Function.update_of_ne (StableHlo.devRef_ne_of_ne (by decide) : (Proc.devRef .tc main_v22_0 : DevRef τ sig) ≠ Proc.devRef .tc main_v22_1), Function.update_self]; exact end_v22_0 m c
theorem at2_v22_1 (c : Dev nD) : V2 m (outs m) c main_v22_1 = (vals m).a (px c) := by
  unfold V2; rw [Function.update_self]; exact end_v22_1 m c
theorem at3_v23 (c : Dev nD) : V3 m (outs m) c main_v23 = ownSum m c := by
  unfold V3; rw [Function.update_self]; exact end_v23 m c
theorem at4_v24 (c : Dev nD) : V4 m (outs m) c main_v24 = (vals m).rem c := by
  unfold V4; rw [Function.update_self]; exact end_v24 m c
theorem at5_v24 (c : Dev nD) : V5 m (outs m) c main_v24 = (vals m).rem c := by
  unfold V5; rw [Function.update_of_ne (StableHlo.devRef_ne_of_ne (by decide) : (Proc.devRef .tc main_v24 : DevRef τ sig) ≠ Proc.devRef .tc main_v25), Function.update_self]; exact end_v24 m c
theorem at5_v25 (c : Dev nD) : V5 m (outs m) c main_v25 = (vals m).rem (px c) := by
  unfold V5; rw [Function.update_self]; exact end_v25 m c
theorem at6_v26 (c : Dev nD) : V6 m (outs m) c main_v26 = (vals m).out c := by
  unfold V6; rw [Function.update_self]; exact end_v26 m c
theorem at7_v26 (c : Dev nD) : V7 m (outs m) c main_v26 = (vals m).out c := by
  unfold V7; rw [Function.update_of_ne (StableHlo.devRef_ne_of_ne (by decide) : (Proc.devRef .tc main_v26 : DevRef τ sig) ≠ Proc.devRef .tc main_v27), Function.update_self]; exact end_v26 m c
theorem at7_v27 (c : Dev nD) : V7 m (outs m) c main_v27 = gath (vals m) c := by
  unfold V7; rw [Function.update_self]; exact end_v27 m c
theorem at3_v22_0 (c : Dev nD) : V3 m (outs m) c main_v22_0 = (vals m).x (px c) := (V3_of m (outs m) c main_v22_0 (by decide)).trans <| at2_v22_0 m c
theorem at3_v22_1 (c : Dev nD) : V3 m (outs m) c main_v22_1 = (vals m).a (px c) := (V3_of m (outs m) c main_v22_1 (by decide)).trans <| at2_v22_1 m c
theorem at5_v23 (c : Dev nD) : V5 m (outs m) c main_v23 = ownSum m c := (V5_of m (outs m) c main_v23 (by decide)).trans <| (V4_of m (outs m) c main_v23 (by decide)).trans <| at3_v23 m c
theorem at2_arg2 (c : Dev nD) : V2 m (outs m) c main_arg2 = m ((c : Thread nD τ).loc main_arg2) := (V2_of m (outs m) c main_arg2 (by decide)).trans <| (V1_of m c main_arg2 (by decide)).trans rfl
theorem at2_arg3 (c : Dev nD) : V2 m (outs m) c main_arg3 = m ((c : Thread nD τ).loc main_arg3) := (V2_of m (outs m) c main_arg3 (by decide)).trans <| (V1_of m c main_arg3 (by decide)).trans rfl
theorem at3_arg2 (c : Dev nD) : V3 m (outs m) c main_arg2 = m ((c : Thread nD τ).loc main_arg2) := (V3_of m (outs m) c main_arg2 (by decide)).trans <| (V2_of m (outs m) c main_arg2 (by decide)).trans <| (V1_of m c main_arg2 (by decide)).trans rfl
theorem at3_arg3 (c : Dev nD) : V3 m (outs m) c main_arg3 = m ((c : Thread nD τ).loc main_arg3) := (V3_of m (outs m) c main_arg3 (by decide)).trans <| (V2_of m (outs m) c main_arg3 (by decide)).trans <| (V1_of m c main_arg3 (by decide)).trans rfl

/-- Region 1 leaves the own rows' sum, -/
theorem sum1_eq (c : Dev nD) : sum1 (V2 m (outs m)) c 31 last_lt = ownSum m c := by
  have e0 : V2 m (outs m) c main_v15 = V1 m c main_v15 := at2_v15 m c
  have e1 : V2 m (outs m) c main_v21 = V1 m c main_v21 := at2_v21 m c
  have e2 := at2_arg2 m c
  have e3 := at2_arg3 m c
  unfold ownSum moe
  rw [← e0, ← e1, ← e2, ← e3]
  rfl
/-- region 2 the neighbour's. -/
theorem sum2_eq (c : Dev nD) : sum2 (V3 m (outs m)) c 31 last_lt = remSum m c := by
  have e0 : V3 m (outs m) c main_v22_0 = V1 m (px c) main_v15 := at3_v22_0 m c
  have e1 : V3 m (outs m) c main_v22_1 = V1 m (px c) main_v21 := at3_v22_1 m c
  have e2 := at3_arg2 m c
  have e3 := at3_arg3 m c
  unfold remSum moe
  rw [← e0, ← e1, ← e2, ← e3]
  rfl

end Cert.KernelIdeal.Talk

end
-- ==== Proof.Steps.lean ====
/- The four kinds of step a conversing kernel makes — a signal, a wait, a copy to another device, a copy at home — at the cells, duties and debts of the schedule. -/
module

public import proofs.«01_k».proof.Proof.Talk
public import Idealize.ShloMosaic.Lib.Pipeline.TalkSched

@[expose] public section

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
variable (D : Vals F)

local notation "𝕄" => MT nD τ sig Unit (Elt F) ℕ UU ℕ

theorem cred15 : m15.view.dmaCredit = NX := rfl
theorem cred21 : m21.view.dmaCredit = NA := rfl
theorem cred220 : m220.view.dmaCredit = NX := rfl
theorem cred221 : m221.view.dmaCredit = NA := rfl
theorem cred24 : m24.view.dmaCredit = NX := rfl
theorem cred26 : m26.view.dmaCredit = NX := rfl
theorem credblk (d : Dev nD) : (blk d).view.dmaCredit = NX := rfl
theorem credhalf (d : Dev nD) : (half d).view.dmaCredit = NH := rfl

theorem bar0_eq (h) : (SemArray.scalar (sig.barrier 0 h) : Sems sig S_).sem = bar0 := rfl
theorem bar1_eq (h) : (SemArray.scalar (sig.barrier 1 h) : Sems sig S_).sem = bar1 := rfl
theorem bar2_eq (h) : (SemArray.scalar (sig.barrier 2 h) : Sems sig S_).sem = bar2 := rfl
theorem sem18 : SemArray.sem cc3_scratch0 = (18 : DmaSem sig) := by decide +kernel
theorem sem19 : SemArray.sem cc3_scratch1 = (19 : DmaSem sig) := by decide +kernel
theorem sem23 : SemArray.sem cc5_scratch0 = (23 : DmaSem sig) := by decide +kernel
theorem sem0 : SemArray.sem ((cc0_scratch0.slice (Rect.unit (s := S2) ![0] S1.size inb_S2_S1_0)).squeeze S_ squeezes_S1_S_) = (0 : DmaSem sig) := by decide +kernel
theorem sem1 : SemArray.sem ((cc0_scratch0.slice (Rect.unit (s := S2) ![1] S1.size inb_S2_S1_1)).squeeze S_ squeezes_S1_S_) = (1 : DmaSem sig) := by decide +kernel
theorem sem2 : SemArray.sem ((cc0_scratch1.slice (Rect.unit (s := S2) ![0] S1.size inb_S2_S1_0)).squeeze S_ squeezes_S1_S_) = (2 : DmaSem sig) := by decide +kernel
theorem sem3 : SemArray.sem ((cc0_scratch1.slice (Rect.unit (s := S2) ![1] S1.size inb_S2_S1_1)).squeeze S_ squeezes_S1_S_) = (3 : DmaSem sig) := by decide +kernel
theorem sem24 : SemArray.sem ((cc5_scratch1.slice (Rect.unit (s := S2) ![0] S1.size inb_S2_S1_0)).squeeze S_ squeezes_S1_S_) = (24 : DmaSem sig) := by decide +kernel
theorem sem25 : SemArray.sem ((cc5_scratch1.slice (Rect.unit (s := S2) ![1] S1.size inb_S2_S1_1)).squeeze S_ squeezes_S1_S_) = (25 : DmaSem sig) := by decide +kernel
theorem sem26 : SemArray.sem ((cc5_scratch2.slice (Rect.unit (s := S2) ![0] S1.size inb_S2_S1_0)).squeeze S_ squeezes_S1_S_) = (26 : DmaSem sig) := by decide +kernel
theorem sem27 : SemArray.sem ((cc5_scratch2.slice (Rect.unit (s := S2) ![1] S1.size inb_S2_S1_1)).squeeze S_ squeezes_S1_S_) = (27 : DmaSem sig) := by decide +kernel

/-- Every cell's invariant at the names `κ`. -/
abbrev invs (κ : GSem nD τ sig → ℕ) : sProp 𝕄 :=
  bigSep Finset.univ fun ck : Dev nD × Fin 14 => cellInv ER (rd D) (κ (cell ck.1 ck.2)) (cell ck.1 ck.2)

variable {α : Type} {Q : α → sProp (MT nD τ sig Unit (Elt F) ℕ UU ℕ)}

/-- A signal pays the first raise owed. -/
theorem step_signal (κ : GSem nD τ sig → ℕ) (c : Dev nD) (i : Fin 9) (l : List (Fin 9)) (d : Bool) (dst : Dev nD) {dvp : Dev nD} (he : dvp = dst) (sem : Sem sig)
    (hdst : own i c = dst) (hs : sm (kk i) = .reg sem) (hd : d ∈ dut (kk i)) (hu : amt (kk i) = 1) {n : Int} (hn : n = ((1 : ℕ) : Int)) {W : Waits sig Unit}
    {k : PUnit → Prog (TpuEff nD τ sig (Elt F) Λ₀ .tc) α} :
    iprop(invs D κ ∗ owes (c : Thread nD τ) (owe (i :: l) c) W ∗ tok dst (kk i) d ∗ pay D dst (kk i) d ∗ rch dst (kk i))
      ⊢ iprop((owes (c : Thread nD τ) (owe l c) W -∗ wp frame (wpE (defs₀ (F := F)) 𝒱₀ c none) Set.univ (k ⟨⟩) Q)
        -∗ wp frame (wpE (defs₀ (F := F)) 𝒱₀ c none) Set.univ (.op (.semSignal (dvp, .tc) sem n) k) Q) := by
  subst he hn hdst
  have key := (Rounds.wp_signal (defs := defs₀ (F := F)) (Q := Q) (W := W) (k := k) (Es := Set.univ) (Γ := PendingWaitsCtx.empty) 𝒱₀ ER (rd D) (c : Thread nD τ) none (dst := (own i c : Thread nD τ)) (sem := sem) (r := 0) (d := d)
      (κ := κ (cell (own i c) (kk i))) (O₀ := owe (i :: l) c) (by rw [← hs, duties_eq]; exact hd) (by rw [← hs, amount_eq, hu]) () (owe l c)
      (by rw [← hs, ← hu]; rfl))
  rw [← hs, payload_eq] at key
  iintro ⟨#HI, HO, Ht, Hp, Hr⟩
  iapply key
  isplitr; · iapply (inv_at D κ (own i c) (kk i)); iexact HI
  isplitl [HO]; · iexact HO
  isplitl [Ht]; · iexact Ht
  isplitl [Hp]; · iexact Hp
  iexact Hr

/-- A wait for all of a cell's one round: everything it was to deliver arrives, and the counter comes back at zero. -/
theorem step_wait (κ : GSem nD τ sig → ℕ) (c : Dev nD) (kd : Fin 14) (l : List (Fin 9)) {w : TpuEff nD τ sig (Elt F) Λ₀ .tc PUnit} {n n' : ℕ} {s : SemLoc sig}
    (hw : ∀ K : PUnit → sProp 𝕄, wpE (defs₀ (F := F)) 𝒱₀ (c : Thread nD τ) none Set.univ w K = waitSpec (c : Thread nD τ) Set.univ s n' K) (hs : sm kd = s)
    (hn' : n' = n) (hn : n = (rd D).expect (cell c kd) 0) (hl : ∀ i ∈ l, lvl kd < lvl (kk i)) {P : sProp 𝕄}
    (hP : bigSep ((rd D).duties (cell c kd) 0 \ ∅) (fun d => (rd D).payload (cell c kd) 0 d) = P) {W : Waits sig Unit}
    {k : PUnit → Prog (TpuEff nD τ sig (Elt F) Λ₀ .tc) α} :
    iprop(invs D κ ∗ levAts L lv ∗ crd c kd n ∗ owes (c : Thread nD τ) (owe l c) W ∗ at0 c kd)
      ⊢ iprop((((∃ W', owes (c : Thread nD τ) (owe l c) W') ∗ val0 c kd ∗ P) -∗ wp frame (wpE (defs₀ (F := F)) 𝒱₀ c none) Set.univ (k ⟨⟩) Q)
        -∗ wp frame (wpE (defs₀ (F := F)) 𝒱₀ c none) Set.univ (.op w k) Q) := by
  subst hs hP hn'
  iintro ⟨#HI, #Hlev, Hc, HO, Hat⟩ Hk
  iapply (Rounds.wp_wait_rest_token 𝒱₀ ER (rd D) (c : Thread nD τ) none (κ := κ (cell c kd)) hw (Set.mem_univ _) () (O := owe l c) (W := W) (R := 0) (m := 0) (T := ∅)
      ((Nat.zero_add _).trans hn)) $$ [Hc HO Hat]
  · isplitr; · iapply (inv_at D κ c kd); iexact HI
    isplitl [Hc]; · iexact Hc
    isplitl [HO]; · iexact HO
    isplitr; · iapply (mayWait l c kd hl); iexact Hlev
    iexact Hat
  iintro ⟨HO, Hat, -, Hpay⟩
  imod (close D (κ (cell c kd)) (cell c kd)) $$ [Hat] with Hv
  · isplitr; · iapply (inv_at D κ c kd); iexact HI
    iexact Hat
  iapply Hk
  isplitl [HO]; · iexists _; iexact HO
  isplitl [Hv]; · iexact Hv
  iexact Hpay

/-- A copy to another device pays the first raise owed, and the sender's own one. -/
theorem step_send (κ : GSem nD τ sig → ℕ) (c : Dev nD) (i : Fin 9) (l : List (Fin 9)) (kS : Fin 14) (dv : Dev nD) {dvp : Dev nD} (he : dvp = dv) {s : Shape} {e : EltTy}
    {src dst : Memref sig .tc .hbm s e} {hsc : dst.view.ref.isScScratch = false} {sS sem : SemLoc sig}
    {hsrc : src.view.WordExact} {hdst : dst.view.WordExact} {hsem : DmaTarget.Typed .hbm sem (.remote (dvp : Thread nD τ) dst sS hsc)}
    (hdv : own i c = dv) (hS : sm kS = sS) (hs : sm (kk i) = sem) (hd₁ : false ∈ dut kS) (hd₂ : false ∈ dut (kk i))
    {n : ℕ} (hN : dst.view.amount sem = n) (hu₁ : amt kS = n) (hu₂ : amt (kk i) = n) {W : Waits sig Unit}
    (fs : Buf (Elt F) (src.view.loc (c : Thread nD τ))) (fd : Buf (Elt F) (dst.view.loc (dv : Thread nD τ)))
    (hpay₁ : (pts src c fs : sProp 𝕄) ⊢ pay D c kS false)
    (hpay₂ : (pts dst dv (dst.view.write (Elt F) fd (src.view.read (Elt F) fs) Finset.univ) : sProp 𝕄) ⊢ pay D dv (kk i) false)
    {k : PUnit → Prog (TpuEff nD τ sig (Elt F) Λ₀ .tc) α} :
    iprop(invs D κ ∗ pts src c fs ∗ pts dst dv fd ∗ owes (c : Thread nD τ) (owe (i :: l) c) W ∗ tok c kS false ∗ rch c kS
        ∗ tok dv (kk i) false ∗ rch dv (kk i))
      ⊢ iprop(((crd c kS n ∗ owes (c : Thread nD τ) (owe l c) W) -∗ wp frame (wpE (defs₀ (F := F)) 𝒱₀ c none) Set.univ (k ⟨⟩) Q)
        -∗ wp frame (wpE (defs₀ (F := F)) 𝒱₀ c none) Set.univ (.op (.enqueueDma src (.remote (dvp : Thread nD τ) dst sS hsc) sem hsrc hdst hsem) k) Q) := by
  subst he hdv hS hs
  have key := (Rounds.wp_send_pointsTo (defs := defs₀ (F := F)) (Q := Q) (W := W) (k := k) (Es := Set.univ) (Γ := PendingWaitsCtx.empty) (hsrc := hsrc) (hdst := hdst) (hsem := hsem) 𝒱₀ ER (rd D) (c : Thread nD τ) none (c' := (own i c : Thread nD τ)) (src := src) (dst := dst)
      (sS := sm kS) (sem := sm (kk i)) (q := fullShare) (fs := fs) (κ₁ := κ (cell c kS)) (κ₂ := κ (cell (own i c) (kk i)))
      (r₁ := 0) (r₂ := 0) (d₁ := false) (d₂ := false) (fd := fd)
      (by rw [duties_eq]; exact hd₁) (by rw [duties_eq]; exact hd₂)
      () () n hN (by rw [amount_eq, hu₁]) (by rw [amount_eq, hu₂]) (O₀ := owe (i :: l) c) (owe l c) (by rw [← hu₂]; rfl)
      (by rw [payload_eq]; exact hpay₁) (by rw [payload_eq]; exact hpay₂))
  iintro ⟨#HI, Hs, Hd, HO, Ht1, Hr1, Ht2, Hr2⟩
  iapply key
  isplitr; · iapply (inv_at D κ c kS); iexact HI
  isplitr; · iapply (inv_at D κ (own i c) (kk i)); iexact HI
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- A copy at home. -/
theorem step_copy (κ : GSem nD τ sig → ℕ) (c : Dev nD) (kS : Fin 14) {s : Shape} {e : EltTy}
    {src dst : Memref sig .tc .hbm s e} {sem : SemLoc sig}
    {hsrc : src.view.WordExact} {hdst : dst.view.WordExact} {hsem : DmaTarget.Typed (nD := nD) .hbm sem (DmaTarget.here (nD := nD) (p := (Proc.tc : Proc τ)) dst)}
    (hS : sm kS = sem) (hd₁ : false ∈ dut kS) {n : ℕ} (hN : dst.view.amount sem = n) (hu₁ : amt kS = n)
    (fs : Buf (Elt F) (src.view.loc (c : Thread nD τ))) (fd : Buf (Elt F) (dst.view.loc (c : Thread nD τ)))
    (hpay : iprop(pts dst c (dst.view.write (Elt F) fd (src.view.read (Elt F) fs) Finset.univ) ∗ pts src c fs) ⊢ (pay D c kS false : sProp 𝕄))
    {k : PUnit → Prog (TpuEff nD τ sig (Elt F) Λ₀ .tc) α} :
    iprop(invs D κ ∗ pts src c fs ∗ pts dst c fd ∗ tok c kS false ∗ rch c kS)
      ⊢ iprop((crd c kS n -∗ wp frame (wpE (defs₀ (F := F)) 𝒱₀ c none) Set.univ (k ⟨⟩) Q)
        -∗ wp frame (wpE (defs₀ (F := F)) 𝒱₀ c none) Set.univ (.op (.enqueueDma src (.here dst) sem hsrc hdst hsem) k) Q) := by
  subst hS
  have key := (Rounds.wp_copy_pointsTo (defs := defs₀ (F := F)) (Q := Q) (k := k) (Es := Set.univ) (Γ := PendingWaitsCtx.empty) (hsrc := hsrc) (hdst := hdst) (hsem := hsem) 𝒱₀ ER (rd D) (c : Thread nD τ) none (src := src) (dst := dst)
      (sem := sm kS) (q := fullShare) (fs := fs) (κ := κ (cell c kS)) (r := 0) (d := false) (fd := fd)
      (by rw [duties_eq]; exact hd₁) () n hN (by rw [amount_eq, hu₁]) (by rw [payload_eq]; exact hpay))
  iintro ⟨#HI, Hs, Hd, Ht1, Hr1⟩
  iapply key
  isplitr; · iapply (inv_at D κ c kS); iexact HI
  isplitl [Hs]; · iexact Hs
  isplitl [Hd]; · iexact Hd
  isplitl [Ht1]; · iexact Ht1
  iexact Hr1

/-- Opening a cell that slept: its counter, at zero, for its owner's place. -/
theorem step_open (κ : GSem nD τ sig → ℕ) (c : Dev nD) (k : Fin 14) :
    iprop(invs D κ ∗ openTok ER (cell c k) ∗ val0 c k) ⊢ (|={Set.univ}=> iprop(at0 c k ∗ rch c k) : sProp 𝕄) := by
  iintro ⟨#HI, Ho, Hv⟩
  iapply (Rounds.cell_open ER (rd D) (g := cell c k) (Set.mem_univ (κ (cell c k))))
  isplitr; · iapply (inv_at D κ c k); iexact HI
  isplitl [Ho]; · iexact Ho
  iexact Hv

end Cert.KernelIdeal.Talk

end
-- ==== Proof.Exchange.lean ====
/- The exchange of the rows and of their assignments with the neighbour: two copies each way, after a barrier with that neighbour. -/
module

public import proofs.«01_k».proof.Proof.Steps
public import proofs.«01_k».proof.Proof.Gen.KernelIdeal.Skeleton
public import Idealize.ShloMosaic.Lib.Pipeline.TalkSched

@[expose] public section

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
variable (D : Vals F)

local notation "𝕄" => MT nD τ sig Unit (Elt F) ℕ UU ℕ

theorem k0_dev1_px (d : Dev nD) (h : k0_dev1 d < nD) : (⟨k0_dev1 d, h⟩ : Dev nD) = px d := Fin.ext (k0_dev1_eq d)
theorem k0_dev2_px (d : Dev nD) (h : k0_dev2 d < nD) : (⟨k0_dev2 d, h⟩ : Dev nD) = px d := Fin.ext (k0_dev2_eq d)
theorem k0_dev3_px (d : Dev nD) (h : k0_dev3 d < nD) : (⟨k0_dev3 d, h⟩ : Dev nD) = px d := Fin.ext (k0_dev3_eq d)

/-- What device `c` spends in the exchange: its place at the barrier, the duties it pays, the credit it waits with. -/
def rights0 (c : Dev nD) : sProp 𝕄 :=
  iprop(at0 c 0 ∗ tok (px c) 0 false ∗ (tok c 3 false ∗ tok (px c) 5 false) ∗ (tok c 4 false ∗ tok (px c) 6 false)
    ∗ crd c 0 1 ∗ crd c 5 NX ∗ crd c 6 NA)

def pre0 (c : Dev nD) (W : Waits sig Unit) : sProp 𝕄 :=
  iprop(recs D ∗ levAts L lv ∗ rights0 c ∗ (at0 c 3 ∗ rch c 3) ∗ (at0 c 4 ∗ rch c 4) ∗ (at0 c 5 ∗ rch c 5) ∗ (at0 c 6 ∗ rch c 6)
    ∗ ((∃ f, pts m220 c f) ∗ (∃ f, pts m221 c f)) ∗ (pts m15 c (D.x c) ∗ pts m21 c (D.a c)) ∗ owes (c : Thread nD τ) (O0 c) W)
def post0 (c : Dev nD) : sProp 𝕄 :=
  iprop(val0 c 0 ∗ (val0 c 3 ∗ val0 c 4 ∗ val0 c 5 ∗ val0 c 6) ∗ (pts m220 c (D.x (px c)) ∗ pts m221 c (D.a (px c)))
    ∗ (pts m15 c (D.x c) ∗ pts m21 c (D.a c)) ∗ ∃ W, owes (c : Thread nD τ) (O3 c) W)

theorem pay_bar0 (c : Dev nD) : pay D (px c) (kk 0) false = iprop((∃ f, pts m220 c f) ∗ (∃ f, pts m221 c f) ∗ rch c 5 ∗ rch c 6) := by
  show iprop((∃ f, pts m220 (px (px c)) f) ∗ (∃ f, pts m221 (px (px c)) f) ∗ reached ER (cell (px (px c)) 5) 0 ∗ reached ER (cell (px (px c)) 6) 0) = _
  rw [px_px]

set_option maxHeartbeats 2000000 in
set_option maxRecDepth 16384 in
theorem run0 (c : Dev nD) (W : Waits sig Unit) (Kt : PUnit → sProp 𝕄) :
    iprop(pre0 D c W ∗ (post0 D c -∗ Kt ⟨⟩))
      ⊢ wp frame (wpE (defs₀ (F := F)) 𝒱₀ c none) Set.univ
        (cc0__exchange_body (F := F) (Memref.whole main_v15) (Memref.isWhole_whole _) (Memref.whole main_v21) (Memref.isWhole_whole _) (Memref.whole main_v22_0) (Memref.isWhole_whole _) (Memref.whole main_v22_1) (Memref.isWhole_whole _) cc0_scratch0 cc0_scratch1) Kt := by
  simp only [cc0__exchange_body_eq_skeleton]; unfold cc0__exchange_body_skel
  simp only [k0_part1_eq_skeleton, k0_part2_eq_skeleton]; unfold k0_part1_skel k0_part2_skel
  simp only [semSignalWord, semWaitWord, Prog.lift, Prog.bind_op, Prog.bind_ret, pure_bind, wp_deviceId, TalkSites.one_toInt, bar0_eq, sem0, sem1, sem2, sem3]
  unfold pre0 rights0 recs
  iintro ⟨⟨⟨%κ, #HI, #HR⟩, #Hlev, ⟨HatB, HtB, ⟨HtS, HtV⟩, ⟨HtS', HtV'⟩, HcB, HcV, HcV'⟩, ⟨HatS, #HrS⟩, ⟨HatS', #HrS'⟩, ⟨HatV, #HrV⟩, ⟨HatV', #HrV'⟩, ⟨⟨%f0, H220⟩, ⟨%f1, H221⟩⟩, ⟨H15, H21⟩, HO⟩, Hk⟩
  iapply (step_signal D κ c 0 [1, 2, 3, 4, 5, 6, 7, 8] false (px c) (k0_dev1_px c _) bar0 rfl rfl (by decide) rfl rfl) $$ [HO HtB H220 H221]
  · isplitr; · iexact HI
    isplitl [HO]; · iexact HO
    isplitl [HtB]; · iexact HtB
    isplitl [H220 H221]
    · rw [pay_bar0]
      isplitl [H220]; · iexists f0; iexact H220
      isplitl [H221]; · iexists f1; iexact H221
      isplitr; · iexact HrV
      iexact HrV'
    · iapply (reached_at (px c) 0); iexact HR
  iintro HO
  iapply (step_wait D κ c 0 [1, 2, 3, 4, 5, 6, 7, 8] (wpE_semWait_eq 𝒱₀ (c : Thread nD τ) none Set.univ) rfl rfl (expect_one D c 0 (by decide)).symm (by decide) (rest_one D c 0 (by decide))) $$ [HcB HO HatB]
  · isplitr; · iexact HI
    isplitr; · iexact Hlev
    isplitl [HcB]; · iexact HcB
    isplitl [HO] <;> iassumption
  iintro ⟨⟨%W1, HO⟩, Hv0, Hp⟩
  ihave Hp := (show pay D c 0 false ⊢ iprop((∃ f, pts m220 (px c) f) ∗ (∃ f, pts m221 (px c) f) ∗ reached ER (cell (px c) 5) 0 ∗ reached ER (cell (px c) 6) 0) from .rfl) $$ Hp
  icases Hp with ⟨⟨%fn, HN⟩, ⟨%fn', HN'⟩, #HrN, #HrN'⟩
  iapply (step_send D κ c 1 [2, 3, 4, 5, 6, 7, 8] 3 (px c) (k0_dev2_px c _) (src := m15) (dst := m220) (n := NX) rfl rfl rfl (by decide) (by decide) rfl rfl rfl (D.x c) fn .rfl
      (by
        show _ ⊢ pts m220 (px c) (D.x (px (px c)))
        rw [px_px]
        refine Entails.of_eq (congrArg _ ?_)
        exact View.write_whole_univ _ _ _)) $$ [H15 HN HO HtS HtV]
  · isplitr; · iexact HI
    isplitl [H15]; · iexact H15
    isplitl [HN]; · iexact HN
    isplitl [HO]; · iexact HO
    isplitl [HtS]; · iexact HtS
    isplitr; · iexact HrS
    isplitl [HtV]; · iexact HtV
    iexact HrN
  iintro ⟨HcS, HO⟩
  iapply (step_send D κ c 2 [3, 4, 5, 6, 7, 8] 4 (px c) (k0_dev3_px c _) (src := m21) (dst := m221) (n := NA) rfl rfl rfl (by decide) (by decide) rfl rfl rfl (D.a c) fn' .rfl
      (by
        show _ ⊢ pts m221 (px c) (D.a (px (px c)))
        rw [px_px]
        refine Entails.of_eq (congrArg _ ?_)
        exact View.write_whole_univ _ _ _)) $$ [H21 HN' HO HtS' HtV']
  · isplitr; · iexact HI
    isplitl [H21]; · iexact H21
    isplitl [HN']; · iexact HN'
    isplitl [HO]; · iexact HO
    isplitl [HtS']; · iexact HtS'
    isplitr; · iexact HrS'
    isplitl [HtV']; · iexact HtV'
    iexact HrN'
  iintro ⟨HcS', HO⟩
  iapply (step_wait D κ c 3 [3, 4, 5, 6, 7, 8] (n := NX) (P := pts m15 c (D.x c)) (wpE_waitDma2_eq (src := m220) (dst := m15) 𝒱₀ (c : Thread nD τ) none Set.univ) rfl cred15 (expect_one D c 3 (by decide)).symm (by decide) (rest_one D c 3 (by decide))) $$ [HcS HO HatS]
  · isplitr; · iexact HI
    isplitr; · iexact Hlev
    isplitl [HcS]; · iexact HcS
    isplitl [HO] <;> iassumption
  iintro ⟨⟨%W3, HO⟩, Hv3, H15⟩
  iapply (step_wait D κ c 5 [3, 4, 5, 6, 7, 8] (n := NX) (P := pts m220 c (D.x (px c))) (wpE_waitDma2_eq (src := m15) (dst := m220) 𝒱₀ (c : Thread nD τ) none Set.univ) rfl cred220 (expect_one D c 5 (by decide)).symm (by decide) (rest_one D c 5 (by decide))) $$ [HcV HO HatV]
  · isplitr; · iexact HI
    isplitr; · iexact Hlev
    isplitl [HcV]; · iexact HcV
    isplitl [HO] <;> iassumption
  iintro ⟨⟨%W5, HO⟩, Hv5, H220⟩
  iapply (step_wait D κ c 4 [3, 4, 5, 6, 7, 8] (n := NA) (P := pts m21 c (D.a c)) (wpE_waitDma2_eq (src := m221) (dst := m21) 𝒱₀ (c : Thread nD τ) none Set.univ) rfl cred21 (expect_one D c 4 (by decide)).symm (by decide) (rest_one D c 4 (by decide))) $$ [HcS' HO HatS']
  · isplitr; · iexact HI
    isplitr; · iexact Hlev
    isplitl [HcS']; · iexact HcS'
    isplitl [HO] <;> iassumption
  iintro ⟨⟨%W4, HO⟩, Hv4, H21⟩
  iapply (step_wait D κ c 6 [3, 4, 5, 6, 7, 8] (n := NA) (P := pts m221 c (D.a (px c))) (wpE_waitDma2_eq (src := m21) (dst := m221) 𝒱₀ (c : Thread nD τ) none Set.univ) rfl cred221 (expect_one D c 6 (by decide)).symm (by decide) (rest_one D c 6 (by decide))) $$ [HcV' HO HatV']
  · isplitr; · iexact HI
    isplitr; · iexact Hlev
    isplitl [HcV']; · iexact HcV'
    isplitl [HO] <;> iassumption
  iintro ⟨⟨%W6, HO⟩, Hv6, H221⟩
  rw [show (Pure.pure PUnit.unit : Prog (TpuEff nD τ sig (Elt F) Λ₀ .tc) PUnit) = .ret ⟨⟩ from rfl, wp_ret]; imodintro
  iapply Hk
  unfold post0
  isplitl [Hv0]; · iexact Hv0
  isplitl [Hv3 Hv4 Hv5 Hv6]
  · isplitl [Hv3]; · iexact Hv3
    isplitl [Hv4]; · iexact Hv4
    isplitl [Hv5]; · iexact Hv5
    iexact Hv6
  isplitl [H220 H221]
  · isplitl [H220]; · iexact H220
    iexact H221
  isplitl [H15 H21]
  · isplitl [H15]; · iexact H15
    iexact H21
  iexists _; iexact HO

end Cert.KernelIdeal.Talk

end
-- ==== Proof.Return.lean ====
/- The exchange of what was computed for the neighbour's rows: one copy each way, after a barrier with that neighbour. -/
module

public import proofs.«01_k».proof.Proof.Steps
public import proofs.«01_k».proof.Proof.Gen.KernelIdeal.Skeleton
public import Idealize.ShloMosaic.Lib.Pipeline.TalkSched

@[expose] public section

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
variable (D : Vals F)

local notation "𝕄" => MT nD τ sig Unit (Elt F) ℕ UU ℕ

theorem k3_dev1_px (d : Dev nD) (h : k3_dev1 d < nD) : (⟨k3_dev1 d, h⟩ : Dev nD) = px d := Fin.ext (k3_dev1_eq d)
theorem k3_dev2_px (d : Dev nD) (h : k3_dev2 d < nD) : (⟨k3_dev2 d, h⟩ : Dev nD) = px d := Fin.ext (k3_dev2_eq d)

/-- What device `c` spends in the exchange: its place at the barrier, the duties it pays, the credit it waits with. -/
def rights3 (c : Dev nD) : sProp 𝕄 :=
  iprop(at0 c 1 ∗ tok (px c) 1 false ∗ tok c 7 false ∗ tok (px c) 8 false ∗ crd c 1 1 ∗ crd c 8 NX)

def pre3 (c : Dev nD) (W : Waits sig Unit) : sProp 𝕄 :=
  iprop(recs D ∗ levAts L lv ∗ rights3 c ∗ (at0 c 7 ∗ rch c 7) ∗ (at0 c 8 ∗ rch c 8)
    ∗ (∃ f, pts m25 c f) ∗ pts m24 c (D.rem c) ∗ owes (c : Thread nD τ) (O3 c) W)
def post3 (c : Dev nD) : sProp 𝕄 :=
  iprop(val0 c 1 ∗ val0 c 7 ∗ val0 c 8 ∗ pts m25 c (D.rem (px c)) ∗ pts m24 c (D.rem c) ∗ ∃ W, owes (c : Thread nD τ) (O5 c) W)

theorem pay_bar1 (c : Dev nD) : pay D (px c) (kk 3) false = iprop((∃ f, pts m25 c f) ∗ rch c 8) := by
  show iprop((∃ f, pts m25 (px (px c)) f) ∗ reached ER (cell (px (px c)) 8) 0) = _
  rw [px_px]

set_option maxHeartbeats 2000000 in
set_option maxRecDepth 16384 in
theorem run3 (c : Dev nD) (W : Waits sig Unit) (Kt : PUnit → sProp 𝕄) :
    iprop(pre3 D c W ∗ (post3 D c -∗ Kt ⟨⟩))
      ⊢ wp frame (wpE (defs₀ (F := F)) 𝒱₀ c none) Set.univ
        (cc3__return_body (F := F) (Memref.whole main_v24) (Memref.isWhole_whole _) (Memref.whole main_v25) (Memref.isWhole_whole _) cc3_scratch0 cc3_scratch1) Kt := by
  simp only [cc3__return_body_eq_skeleton]; unfold cc3__return_body_skel
  simp only [k3_part1_eq_skeleton]; unfold k3_part1_skel
  simp only [semSignalWord, semWaitWord, Prog.lift, Prog.bind_op, Prog.bind_ret, pure_bind, wp_deviceId, TalkSites.one_toInt, bar1_eq, sem18, sem19]
  unfold pre3 rights3 recs
  iintro ⟨⟨⟨%κ, #HI, #HR⟩, #Hlev, ⟨HatB, HtB, HtS, HtV, HcB, HcV⟩, ⟨HatS, #HrS⟩, ⟨HatV, #HrV⟩, ⟨%f0, H25⟩, H24, HO⟩, Hk⟩
  iapply (step_signal D κ c 3 [4, 5, 6, 7, 8] false (px c) (k3_dev1_px c _) bar1 rfl rfl (by decide) rfl rfl) $$ [HO HtB H25]
  · isplitr; · iexact HI
    isplitl [HO]; · iexact HO
    isplitl [HtB]; · iexact HtB
    isplitl [H25]
    · rw [pay_bar1]
      isplitl [H25]; · iexists f0; iexact H25
      iexact HrV
    · iapply (reached_at (px c) 1); iexact HR
  iintro HO
  iapply (step_wait D κ c 1 [4, 5, 6, 7, 8] (wpE_semWait_eq 𝒱₀ (c : Thread nD τ) none Set.univ) rfl rfl (expect_one D c 1 (by decide)).symm (by decide) (rest_one D c 1 (by decide))) $$ [HcB HO HatB]
  · isplitr; · iexact HI
    isplitr; · iexact Hlev
    isplitl [HcB]; · iexact HcB
    isplitl [HO] <;> iassumption
  iintro ⟨⟨%W1, HO⟩, Hv1, Hp⟩
  ihave Hp := (show pay D c 1 false ⊢ iprop((∃ f, pts m25 (px c) f) ∗ reached ER (cell (px c) 8) 0) from .rfl) $$ Hp
  icases Hp with ⟨⟨%fn, HN⟩, #HrN⟩
  iapply (step_send D κ c 4 [5, 6, 7, 8] 7 (px c) (k3_dev2_px c _) (src := m24) (dst := m25) (n := NX) rfl rfl rfl (by decide) (by decide) rfl rfl rfl (D.rem c) fn .rfl
      (by
        show _ ⊢ pts m25 (px c) (D.rem (px (px c)))
        rw [px_px]
        refine Entails.of_eq (congrArg _ ?_)
        exact View.write_whole_univ _ _ _)) $$ [H24 HN HO HtS HtV]
  · isplitr; · iexact HI
    isplitl [H24]; · iexact H24
    isplitl [HN]; · iexact HN
    isplitl [HO]; · iexact HO
    isplitl [HtS]; · iexact HtS
    isplitr; · iexact HrS
    isplitl [HtV]; · iexact HtV
    iexact HrN
  iintro ⟨HcS, HO⟩
  iapply (step_wait D κ c 7 [5, 6, 7, 8] (n := NX) (P := pts m24 c (D.rem c)) (wpE_waitDma2_eq (src := m25) (dst := m24) 𝒱₀ (c : Thread nD τ) none Set.univ) rfl cred24 (expect_one D c 7 (by decide)).symm (by decide) (rest_one D c 7 (by decide))) $$ [HcS HO HatS]
  · isplitr; · iexact HI
    isplitr; · iexact Hlev
    isplitl [HcS]; · iexact HcS
    isplitl [HO] <;> iassumption
  iintro ⟨⟨%W2, HO⟩, Hv7, H24⟩
  iapply (step_wait D κ c 8 [5, 6, 7, 8] (n := NX) (P := pts m25 c (D.rem (px c))) (wpE_waitDma2_eq (src := m24) (dst := m25) 𝒱₀ (c : Thread nD τ) none Set.univ) rfl rfl (expect_one D c 8 (by decide)).symm (by decide) (rest_one D c 8 (by decide))) $$ [HcV HO HatV]
  · isplitr; · iexact HI
    isplitr; · iexact Hlev
    isplitl [HcV]; · iexact HcV
    isplitl [HO] <;> iassumption
  iintro ⟨⟨%W3, HO⟩, Hv8, H25⟩
  rw [show (Pure.pure PUnit.unit : Prog (TpuEff nD τ sig (Elt F) Λ₀ .tc) PUnit) = .ret ⟨⟩ from rfl, wp_ret]; imodintro
  iapply Hk
  unfold post3
  isplitl [Hv1]; · iexact Hv1
  isplitl [Hv7]; · iexact Hv7
  isplitl [Hv8]; · iexact Hv8
  isplitl [H25]; · iexact H25
  isplitl [H24]; · iexact H24
  iexists _; iexact HO

end Cert.KernelIdeal.Talk

end
-- ==== Proof.Ag.lean ====
/- The gathering of the result: a device's own rows first, then the quarter exchanged with one neighbour, then the half exchanged with the other. -/
module

public import proofs.«01_k».proof.Proof.Steps
public import proofs.«01_k».proof.Proof.Gen.KernelIdeal.Skeleton
public import Idealize.ShloMosaic.Lib.Pipeline.TalkSched

@[expose] public section

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
variable (D : Vals F)

local notation "𝕄" => MT nD τ sig Unit (Elt F) ℕ UU ℕ

theorem k5_dev1_pz (d : Dev nD) (h : k5_dev1 d < nD) : (⟨k5_dev1 d, h⟩ : Dev nD) = pz d := Fin.ext (k5_dev1_eq d)
theorem k5_dev2_py (d : Dev nD) (h : k5_dev2 d < nD) : (⟨k5_dev2 d, h⟩ : Dev nD) = py d := Fin.ext (k5_dev2_eq d)
theorem k5_dev3_pz (d : Dev nD) (h : k5_dev3 d < nD) : (⟨k5_dev3 d, h⟩ : Dev nD) = pz d := Fin.ext (k5_dev3_eq d)
theorem k5_dev4_py (d : Dev nD) (h : k5_dev4 d < nD) : (⟨k5_dev4 d, h⟩ : Dev nD) = py d := Fin.ext (k5_dev4_eq d)

theorem gath_pz (c : Dev nD) : gath D c = gath D (pz c) := gath_congr D (by revert c; decide)
theorem gath_py (c : Dev nD) : gath D c = gath D (py c) := gath_congr D (by revert c; decide)

/-- What device `c` spends in the gathering: its place at the barrier, the duties it pays, the credit it waits with. -/
def rights5 (c : Dev nD) : sProp 𝕄 :=
  iprop(at0 c 2 ∗ tok (pz c) 2 false ∗ tok (py c) 2 true ∗ tok c 9 false ∗ (tok c 10 false ∗ tok (pz c) 12 false)
    ∗ (tok c 11 false ∗ tok (py c) 13 false) ∗ crd c 2 2 ∗ crd c 12 NX ∗ crd c 13 NH)

def pre5 (c : Dev nD) (W : Waits sig Unit) : sProp 𝕄 :=
  iprop(recs D ∗ levAts L lv ∗ rights5 c ∗ ((at0 c 9 ∗ rch c 9) ∗ (at0 c 10 ∗ rch c 10) ∗ (at0 c 11 ∗ rch c 11) ∗ (at0 c 12 ∗ rch c 12) ∗ (at0 c 13 ∗ rch c 13))
    ∗ (∃ f, pts m27 c f) ∗ pts m26 c (D.out c) ∗ owes (c : Thread nD τ) (O5 c) W)
def post5 (c : Dev nD) : sProp 𝕄 :=
  iprop(val0 c 2 ∗ (val0 c 9 ∗ val0 c 10 ∗ val0 c 11 ∗ val0 c 12 ∗ val0 c 13) ∗ pts m27 c (gath D c) ∗ pts m26 c (D.out c)
    ∗ ∃ W, owes (c : Thread nD τ) (owe [] c) W)

theorem pay_bar2f (c : Dev nD) : pay D (pz c) (kk 5) false = iprop((∃ f, pts (blk (pz c)) c f) ∗ rch c 12) := by
  show iprop((∃ f, pts (blk (pz c)) (pz (pz c)) f) ∗ reached ER (cell (pz (pz c)) 12) 0) = _
  rw [pz_pz]
theorem pay_bar2t (c : Dev nD) : pay D (py c) (kk 6) true = iprop((∃ f, pts (half (py c)) c f) ∗ rch c 13) := by
  show iprop((∃ f, pts (half (py c)) (py (py c)) f) ∗ reached ER (cell (py (py c)) 13) 0) = _
  rw [py_py]
theorem pay_12 (c : Dev nD) : pay D (pz c) (kk 7) false = pts (blk c) (pz c) (gath D (pz c)) := by
  show pts (blk (pz (pz c))) (pz c) (gath D (pz c)) = _
  rw [pz_pz]
theorem pay_13 (c : Dev nD) : pay D (py c) (kk 8) false = pts (half c) (py c) (gath D (py c)) := by
  show pts (half (py (py c))) (py c) (gath D (py c)) = _
  rw [py_py]

set_option maxHeartbeats 2000000 in

set_option maxRecDepth 16384 in
theorem run5 (c : Dev nD) (W : Waits sig Unit) (Kt : PUnit → sProp 𝕄) :
    iprop(pre5 D c W ∗ (post5 D c -∗ Kt ⟨⟩))
      ⊢ wp frame (wpE (defs₀ (F := F)) 𝒱₀ c none) Set.univ
        (cc5__ag_body (F := F) (Memref.whole main_v26) (Memref.isWhole_whole _) (Memref.whole main_v27) (Memref.isWhole_whole _) cc5_scratch0 cc5_scratch1 cc5_scratch2) Kt := by
  simp only [cc5__ag_body_eq_skeleton]; unfold cc5__ag_body_skel
  simp only [k5_part1_eq_skeleton, k5_part2_eq_skeleton]; unfold k5_part1_skel k5_part2_skel
  simp only [semSignalWord, semWaitWord, Prog.lift, Prog.bind_op, Prog.bind_ret, pure_bind, wp_deviceId, TalkSites.one_toInt, bar2_eq, sem23, sem24, sem25, sem26, sem27]
  unfold pre5 rights5 recs
  iintro ⟨⟨⟨%κ, #HI, #HR⟩, #Hlev, ⟨HatB, HtBz, HtBy, HtL, ⟨HtS, HtV⟩, ⟨HtS', HtV'⟩, HcB, HcV, HcV'⟩, ⟨⟨HatL, #HrL⟩, ⟨HatS, #HrS⟩, ⟨HatS', #HrS'⟩, ⟨HatV, #HrV⟩, ⟨HatV', #HrV'⟩⟩, ⟨%f0, H27⟩, H26, HO⟩, Hk⟩
  ihave H27 := (show pts m27 c f0 ⊢ iprop((pts (blk c) c f0 ∗ pts (blk (pz c)) c f0) ∗ pts (half (py c)) c f0) from (by rw [whole_join c f0, half_join c f0])) $$ H27
  icases H27 with ⟨⟨HB, HBz⟩, HHy⟩
  iapply (step_signal D κ c 5 [6, 7, 8] false (pz c) (k5_dev1_pz c _) bar2 rfl rfl (by decide) rfl rfl) $$ [HO HtBz HBz]
  · isplitr; · iexact HI
    isplitl [HO]; · iexact HO
    isplitl [HtBz]; · iexact HtBz
    isplitl [HBz]
    · rw [pay_bar2f]
      isplitl [HBz]; · iexists f0; iexact HBz
      iexact HrV
    · iapply (reached_at (pz c) 2); iexact HR
  iintro HO
  iapply (step_signal D κ c 6 [7, 8] true (py c) (k5_dev2_py c _) bar2 rfl rfl (by decide) rfl rfl) $$ [HO HtBy HHy]
  · isplitr; · iexact HI
    isplitl [HO]; · iexact HO
    isplitl [HtBy]; · iexact HtBy
    isplitl [HHy]
    · rw [pay_bar2t]
      isplitl [HHy]; · iexists f0; iexact HHy
      iexact HrV'
    · iapply (reached_at (py c) 2); iexact HR
  iintro HO
  iapply (step_wait D κ c 2 [7, 8] (n := 2) (wpE_semWait_eq 𝒱₀ (c : Thread nD τ) none Set.univ) rfl rfl (expect_two D c).symm (by decide) (rest_two D c)) $$ [HcB HO HatB]
  · isplitr; · iexact HI
    isplitr; · iexact Hlev
    isplitl [HcB]; · iexact HcB
    isplitl [HO] <;> iassumption
  iintro ⟨⟨%W1, HO⟩, Hv2, Hp⟩
  ihave Hp := (show iprop(pay D c 2 false ∗ pay D c 2 true) ⊢ iprop(((∃ f, pts (blk c) (pz c) f) ∗ reached ER (cell (pz c) 12) 0) ∗ ((∃ f, pts (half c) (py c) f) ∗ reached ER (cell (py c) 13) 0)) from .rfl) $$ Hp
  icases Hp with ⟨⟨⟨%fn, HN⟩, #HrN⟩, ⟨⟨%fn', HN'⟩, #HrN'⟩⟩
  iapply (step_copy D κ c 9 (src := m26) (dst := blk c) (n := NX) rfl (by decide) rfl rfl (D.out c) f0
      (by
        show _ ⊢ iprop(pts (blk c) c (gath D c) ∗ pts m26 c (D.out c))
        exact Entails.of_eq (congrArg (fun P => iprop(P ∗ pts m26 c (D.out c))) (pointsTo_congr (landed_own D c f0))))) $$ [H26 HB HtL]
  · isplitr; · iexact HI
    isplitl [H26]; · iexact H26
    isplitl [HB]; · iexact HB
    isplitl [HtL]; · iexact HtL
    iexact HrL
  iintro HcL
  iapply (step_wait D κ c 9 [7, 8] (n := NX) (P := iprop(pts (blk c) c (gath D c) ∗ pts m26 c (D.out c))) (wpE_waitDma2_eq (src := m26) (dst := blk c) 𝒱₀ (c : Thread nD τ) none Set.univ) rfl (credblk c) (expect_one D c 9 (by decide)).symm (by decide) (rest_one D c 9 (by decide))) $$ [HcL HO HatL]
  · isplitr; · iexact HI
    isplitr; · iexact Hlev
    isplitl [HcL]; · iexact HcL
    isplitl [HO] <;> iassumption
  iintro ⟨⟨%W9, HO⟩, Hv9, ⟨HB, H26⟩⟩
  iapply (step_send D κ c 7 [8] 10 (pz c) (k5_dev3_pz c _) (src := blk c) (dst := blk c) (n := NX) rfl rfl rfl (by decide) (by decide) rfl rfl rfl (gath D c) fn .rfl
      (by
        rw [pay_12, ← gath_pz]
        exact Entails.of_eq (pointsTo_congr (landed_same (blk c) fn (gath D c))))) $$ [HB HN HO HtS HtV]
  · isplitr; · iexact HI
    isplitl [HB]; · iexact HB
    isplitl [HN]; · iexact HN
    isplitl [HO]; · iexact HO
    isplitl [HtS]; · iexact HtS
    isplitr; · iexact HrS
    isplitl [HtV]; · iexact HtV
    iexact HrN
  iintro ⟨HcS, HO⟩
  iapply (step_wait D κ c 10 [8] (n := NX) (P := pts (blk c) c (gath D c)) (wpE_waitDma2_eq (src := blk c) (dst := blk c) 𝒱₀ (c : Thread nD τ) none Set.univ) rfl (credblk c) (expect_one D c 10 (by decide)).symm (by decide) (rest_one D c 10 (by decide))) $$ [HcS HO HatS]
  · isplitr; · iexact HI
    isplitr; · iexact Hlev
    isplitl [HcS]; · iexact HcS
    isplitl [HO] <;> iassumption
  iintro ⟨⟨%W10, HO⟩, Hv10, HB⟩
  iapply (step_wait D κ c 12 [8] (n := NX) (P := pts (blk (pz c)) c (gath D c)) (wpE_waitDma2_eq (src := blk c) (dst := blk c) 𝒱₀ (c : Thread nD τ) none Set.univ) rfl (credblk c) (expect_one D c 12 (by decide)).symm (by decide) (rest_one D c 12 (by decide))) $$ [HcV HO HatV]
  · isplitr; · iexact HI
    isplitr; · iexact Hlev
    isplitl [HcV]; · iexact HcV
    isplitl [HO] <;> iassumption
  iintro ⟨⟨%W12, HO⟩, Hv12, HBz⟩
  ihave HH := (show iprop(pts (blk c) c (gath D c) ∗ pts (blk (pz c)) c (gath D c)) ⊢ pts (half c) c (gath D c) from (by rw [half_join c (gath D c)])) $$ [HB HBz]
  · isplitl [HB]; · iexact HB
    iexact HBz
  iapply (step_send D κ c 8 [] 11 (py c) (k5_dev4_py c _) (src := half c) (dst := half c) (n := NH) rfl rfl rfl (by decide) (by decide) rfl rfl rfl (gath D c) fn' .rfl
      (by
        rw [pay_13, ← gath_py]
        exact Entails.of_eq (pointsTo_congr (landed_same (half c) fn' (gath D c))))) $$ [HH HN' HO HtS' HtV']
  · isplitr; · iexact HI
    isplitl [HH]; · iexact HH
    isplitl [HN']; · iexact HN'
    isplitl [HO]; · iexact HO
    isplitl [HtS']; · iexact HtS'
    isplitr; · iexact HrS'
    isplitl [HtV']; · iexact HtV'
    iexact HrN'
  iintro ⟨HcS', HO⟩
  iapply (step_wait D κ c 11 [] (n := NH) (P := pts (half c) c (gath D c)) (wpE_waitDma2_eq (src := half c) (dst := half c) 𝒱₀ (c : Thread nD τ) none Set.univ) rfl (credhalf c) (expect_one D c 11 (by decide)).symm (by decide) (rest_one D c 11 (by decide))) $$ [HcS' HO HatS']
  · isplitr; · iexact HI
    isplitr; · iexact Hlev
    isplitl [HcS']; · iexact HcS'
    isplitl [HO] <;> iassumption
  iintro ⟨⟨%W11, HO⟩, Hv11, HH⟩
  iapply (step_wait D κ c 13 [] (n := NH) (P := pts (half (py c)) c (gath D c)) (wpE_waitDma2_eq (src := half c) (dst := half c) 𝒱₀ (c : Thread nD τ) none Set.univ) rfl (credhalf c) (expect_one D c 13 (by decide)).symm (by decide) (rest_one D c 13 (by decide))) $$ [HcV' HO HatV']
  · isplitr; · iexact HI
    isplitr; · iexact Hlev
    isplitl [HcV']; · iexact HcV'
    isplitl [HO] <;> iassumption
  iintro ⟨⟨%W13, HO⟩, Hv13, HHy⟩
  rw [show (Pure.pure PUnit.unit : Prog (TpuEff nD τ sig (Elt F) Λ₀ .tc) PUnit) = .ret ⟨⟩ from rfl, wp_ret]; imodintro
  iapply Hk
  unfold post5
  isplitl [Hv2]; · iexact Hv2
  isplitl [Hv9 Hv10 Hv11 Hv12 Hv13]
  · isplitl [Hv9]; · iexact Hv9
    isplitl [Hv10]; · iexact Hv10
    isplitl [Hv11]; · iexact Hv11
    isplitl [Hv12]; · iexact Hv12
    iexact Hv13
  isplitl [HH HHy]
  · iapply (show iprop(pts (half c) c (gath D c) ∗ pts (half (py c)) c (gath D c)) ⊢ pts m27 c (gath D c) from (by rw [whole_join c (gath D c)]))
    isplitl [HH]; · iexact HH
    iexact HHy
  isplitl [H26]; · iexact H26
  iexists _; iexact HO

end Cert.KernelIdeal.Talk

end
-- ==== Proof.TalkDat.lean ====
/- The three communicating regions' data: what enters each, what it leaves, and its body obligation. -/
module

public import proofs.«01_k».proof.Proof.Contents
public import proofs.«01_k».proof.Proof.Exchange
public import proofs.«01_k».proof.Proof.Return
public import proofs.«01_k».proof.Proof.Ag
public import proofs.«01_k».proof.Proof.Gen.KernelIdeal.Skeleton
public import Idealize.ShloMosaic.Lib.Pipeline.TalkSched

@[expose] public section

set_option maxRecDepth 16384

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- The counters of its own that each of the three uses. -/
def ke0 : Fin 4 → Fin 14 | 0 => 3 | 1 => 4 | 2 => 5 | 3 => 6
def ke3 : Fin 2 → Fin 14 | 0 => 7 | 1 => 8
def ke5 : Fin 5 → Fin 14 | 0 => 9 | 1 => 10 | 2 => 11 | 3 => 12 | 4 => 13
abbrev osm {n : ℕ} (e : Fin n → Fin 14) : Fin n → SemLoc sig := fun k => sm (e k)

/-- The right to begin using those counters, -/
def asleep {n : ℕ} (e : Fin n → Fin 14) (c : Dev nD) : sProp 𝕄 := bigSep Finset.univ fun k => openTok ER (cell c (e k))
/-- and each of them begun. -/
def awake {n : ℕ} (e : Fin n → Fin 14) (c : Dev nD) : sProp 𝕄 := bigSep Finset.univ fun k => iprop(at0 c (e k) ∗ rch c (e k))

/-- What the launch keeps for a communicating region, -/
def kept {n : ℕ} (R : Dev nD → sProp 𝕄) (e : Fin n → Fin 14) (c : Dev nD) : sProp 𝕄 := iprop(recs (vals m) ∗ R c ∗ asleep e c)
/-- and what that becomes when the region begins. -/
def begun {n : ℕ} (R : Dev nD → sProp 𝕄) (e : Fin n → Fin 14) (c : Dev nD) : sProp 𝕄 := iprop(recs (vals m) ∗ levAts L lv ∗ R c ∗ awake e c)

theorem wake {n : ℕ} (R : Dev nD → sProp 𝕄) (e : Fin n → Fin 14) (c : Dev nD) :
    iprop(kept m R e c ∗ Pipeline.ownSems0 (osm e) c ∗ levAts L lv) ⊢ (|={Set.univ}=> begun m R e c : sProp 𝕄) := by
  unfold kept begun recs asleep awake Pipeline.ownSems0
  iintro ⟨⟨⟨%κ, #HI, #HR⟩, Hr, Ho⟩, Hv, #Hlev⟩
  have key : iprop(invs (vals m) κ ∗ (bigSep Finset.univ fun k : Fin n => iprop(openTok ER (cell c (e k)) ∗ val0 c (e k))))
      ⊢ (|={Set.univ}=> (bigSep Finset.univ fun k : Fin n => iprop(at0 c (e k) ∗ rch c (e k))) : sProp 𝕄) :=
    (bigSep_with_persistent fun k _ => step_open (vals m) κ c (e k)).trans (bigSep_fupd _ _)
  imod key $$ [Ho Hv] with Ha
  · isplitr; · iexact HI
    rw [bigSep_sep']
    isplitl [Ho]; · iexact Ho
    iexact Hv
  imodintro
  isplitr
  · iexists κ; isplitr; · iexact HI
    iexact HR
  isplitr; · iexact Hlev
  isplitl [Hr]; · iexact Hr
  iexact Ha

theorem pts_whole (r : Ref sig .tc) (c : Dev nD) (f : Buf (Elt F) ((c : Thread nD τ).loc r)) :
    (((Memref.whole r).view.loc (c : Thread nD τ) ↦[(Memref.whole r).view.set]{fullShare} f) : sProp 𝕄) = ((c : Thread nD τ).loc r ↦{fullShare} f) := by
  rw [show (Memref.whole r).view.set = Finset.univ from View.set_whole _]

/-- The arrays each of the three addresses itself. -/
def hs0 : Finset (DevRef τ sig) := {Proc.devRef .tc main_v15, Proc.devRef .tc main_v21, Proc.devRef .tc main_v22_0, Proc.devRef .tc main_v22_1}
def hs3 : Finset (DevRef τ sig) := {Proc.devRef .tc main_v24, Proc.devRef .tc main_v25}
def hs5 : Finset (DevRef τ sig) := {Proc.devRef .tc main_v26, Proc.devRef .tc main_v27}

theorem held0 (c : Dev nD) (W : Valuation τ sig (Elt F)) : (StableHlo.held (c : Thread nD τ) hs0 W : sProp 𝕄)
    = iprop(pts m15 c (W main_v15) ∗ pts m21 c (W main_v21) ∗ pts m220 c (W main_v22_0) ∗ pts m221 c (W main_v22_1)) := by
  unfold pts
  rw [pts_whole main_v15, pts_whole main_v21, pts_whole main_v22_0, pts_whole main_v22_1]
  unfold StableHlo.held
  rw [bigSep_eq_bigSepL_of_eq [Proc.devRef .tc main_v15, Proc.devRef .tc main_v21, Proc.devRef .tc main_v22_0, Proc.devRef .tc main_v22_1] (by decide) (by decide)]
  rfl
theorem held3 (c : Dev nD) (W : Valuation τ sig (Elt F)) : (StableHlo.held (c : Thread nD τ) hs3 W : sProp 𝕄)
    = iprop(pts m24 c (W main_v24) ∗ pts m25 c (W main_v25)) := by
  unfold pts
  rw [pts_whole main_v24, pts_whole main_v25]
  unfold StableHlo.held
  rw [bigSep_eq_bigSepL_of_eq [Proc.devRef .tc main_v24, Proc.devRef .tc main_v25] (by decide) (by decide)]
  rfl
theorem held5 (c : Dev nD) (W : Valuation τ sig (Elt F)) : (StableHlo.held (c : Thread nD τ) hs5 W : sProp 𝕄)
    = iprop(pts m26 c (W main_v26) ∗ pts m27 c (W main_v27)) := by
  unfold pts
  rw [pts_whole main_v26, pts_whole main_v27]
  unfold StableHlo.held
  rw [bigSep_eq_bigSepL_of_eq [Proc.devRef .tc main_v26, Proc.devRef .tc main_v27] (by decide) (by decide)]
  rfl

/-- The invariant before a communicating region's one point, -/
def talkIn {n : ℕ} (cfg : Cfg sig Λ₀) (S : Finset (DevRef τ sig)) (W : Dev nD → Valuation τ sig (Elt F)) (R : Dev nD → sProp 𝕄) (e : Fin n → Fin 14) (c : Dev nD) : sProp 𝕄 :=
  iprop(Pipeline.scopedRest cfg.spec c ∗ (∃ r, prngReg c r) ∗ StableHlo.held (c : Thread nD τ) S (W c) ∗ begun m R e c)
/-- and after it. -/
def talkOut {n : ℕ} (cfg : Cfg sig Λ₀) (S : Finset (DevRef τ sig)) (W : Dev nD → Valuation τ sig (Elt F)) (b : Fin 14) (e : Fin n → Fin 14) (c : Dev nD) : sProp 𝕄 :=
  iprop(Pipeline.scopedRest cfg.spec c ∗ (∃ r, prngReg c r) ∗ StableHlo.held (c : Thread nD τ) S (W c) ∗ Pipeline.ownSems0 (osm e) c ∗ val0 c b)

theorem none_W {M : Type} [URA M] (Φ : Fin 0 → sProp M) : bigSep Finset.univ Φ = (BI.emp : sProp M) :=
  bigSep_univ_eq_bigSepL [] (by decide) (by decide) Φ

/-! ### Region 0 -/

theorem awake0 (c : Dev nD) : (awake ke0 c : sProp 𝕄) = iprop((at0 c 3 ∗ rch c 3) ∗ (at0 c 4 ∗ rch c 4) ∗ (at0 c 5 ∗ rch c 5) ∗ (at0 c 6 ∗ rch c 6)) := by
  unfold awake; rw [bigSep_univ_eq_bigSepL [0, 1, 2, 3] (by decide) (by decide)]; rfl
theorem own0 (c : Dev nD) : (Pipeline.ownSems0 (osm ke0) c : sProp 𝕄) = iprop(val0 c 3 ∗ val0 c 4 ∗ val0 c 5 ∗ val0 c 6) := by
  unfold Pipeline.ownSems0; rw [bigSep_univ_eq_bigSepL [0, 1, 2, 3] (by decide) (by decide)]; rfl

def dat0 (c : Dev nD) : Dat τ (Elt F) Unit ℕ UU ℕ cfg0 c where
  A w := w.elim0
  after w := w.elim0
  Φ t := if t.val = 0 then talkIn m cfg0 hs0 (V1 m) rights0 ke0 c else talkOut cfg0 hs0 (V2 m (outs m)) 0 ke0 c
  q w := w.elim0
  owed t := if t.val = 0 then O0 c else O3 c

theorem inv0_first (c : Dev nD) : (dat0 m c).Φ 0 = talkIn m cfg0 hs0 (V1 m) rights0 ke0 c := rfl
theorem inv0_last (c : Dev nD) : (dat0 m c).Φ (Fin.last cfg0.N) = talkOut cfg0 hs0 (V2 m (outs m)) 0 ke0 c := rfl
theorem owed0_first (c : Dev nD) : (dat0 m c).owed 0 = O0 c := rfl
theorem owed0_last (c : Dev nD) : (dat0 m c).owed (Fin.last cfg0.N) = O3 c := rfl

theorem row0 (t : Fin cfg0.N) : defs₀ (F := F) .tc cfg0.body (cfg0.bodyArgs t (cfg0.slots t))
    = cc0__exchange_body (F := F) (Memref.whole main_v15) (Memref.isWhole_whole _) (Memref.whole main_v21) (Memref.isWhole_whole _) (Memref.whole main_v22_0) (Memref.isWhole_whole _) (Memref.whole main_v22_1) (Memref.isWhole_whole _) cc0_scratch0 cc0_scratch1 := by
  unfold defs₀; rw [Defs.onTc_tc]

set_option maxHeartbeats 1000000 in
theorem ob0 (c : Dev nD) : BodyObligation (dat0 (F := F) m c) (defs₀ (F := F)) 𝒱₀ () Set.univ := fun t => by
  obtain rfl : t = t0_0 := Fin.ext (by have h1 : t.val < 1 := lt_of_lt_of_eq t.isLt N_0; have h2 : (t0_0 : Fin grid0.N).val = 0 := rfl; omega)
  rw [none_W, none_W, row0]
  rw [show (dat0 m c).Φ (t0_0 : Fin cfg0.N).castSucc = talkIn m cfg0 hs0 (V1 m) rights0 ke0 c from rfl,
    show (dat0 m c).Φ (t0_0 : Fin cfg0.N).succ = talkOut cfg0 hs0 (V2 m (outs m)) 0 ke0 c from rfl]
  unfold talkIn talkOut begun
  rw [held0, held0, awake0, own0]
  rw [at2_v15, at2_v21, at2_v22_0, at2_v22_1]
  iintro ⟨⟨Hs, Hp, ⟨H15, H21, H220, H221⟩, #HR, #Hlev, Hr, Ha3, Ha4, Ha5, Ha6⟩, HO, -⟩
  ihave HO' := (TalkSites.owesAt_elim (dat0 m c) () _ (O0 c) rfl) $$ HO
  icases HO' with ⟨%W, HO⟩
  iapply (run0 (vals m) c W _)
  isplitl [H15 H21 H220 H221 Hr Ha3 Ha4 Ha5 Ha6 HO]
  · unfold pre0
    isplitr; · iexact HR
    isplitr; · iexact Hlev
    isplitl [Hr]; · iexact Hr
    isplitl [Ha3]; · iexact Ha3
    isplitl [Ha4]; · iexact Ha4
    isplitl [Ha5]; · iexact Ha5
    isplitl [Ha6]; · iexact Ha6
    isplitl [H220 H221]
    · isplitl [H220]
      · iexists _; iexact H220
      iexists _; iexact H221
    isplitl [H15 H21]
    · isplitl [H15]; · iexact H15
      iexact H21
    iexact HO
  unfold post0
  iintro ⟨Hb, Hv, ⟨H220, H221⟩, ⟨H15, H21⟩, ⟨%W', HO⟩⟩
  isplitr [HO]
  · isplitl [Hs]; · iexact Hs
    isplitl [Hp]; · iexact Hp
    isplitl [H15 H21 H220 H221]
    · isplitl [H15]; · iexact H15
      isplitl [H21]; · iexact H21
      isplitl [H220]; · iexact H220
      iexact H221
    isplitl [Hv]; · iexact Hv
    iexact Hb
  isplitl [HO]; · iapply (TalkSites.owesAt_intro (dat0 m c) () (t0_0 : Fin cfg0.N).succ (O3 c) rfl rfl W'); iexact HO
  iempintro

/-! ### Region 3 -/

theorem awake3 (c : Dev nD) : (awake ke3 c : sProp 𝕄) = iprop((at0 c 7 ∗ rch c 7) ∗ (at0 c 8 ∗ rch c 8)) := by
  unfold awake; rw [bigSep_univ_eq_bigSepL [0, 1] (by decide) (by decide)]; rfl
theorem own3 (c : Dev nD) : (Pipeline.ownSems0 (osm ke3) c : sProp 𝕄) = iprop(val0 c 7 ∗ val0 c 8) := by
  unfold Pipeline.ownSems0; rw [bigSep_univ_eq_bigSepL [0, 1] (by decide) (by decide)]; rfl

def dat3 (c : Dev nD) : Dat τ (Elt F) Unit ℕ UU ℕ cfg3 c where
  A w := w.elim0
  after w := w.elim0
  Φ t := if t.val = 0 then talkIn m cfg3 hs3 (V4 m (outs m)) rights3 ke3 c else talkOut cfg3 hs3 (V5 m (outs m)) 1 ke3 c
  q w := w.elim0
  owed t := if t.val = 0 then O3 c else O5 c

theorem inv3_first (c : Dev nD) : (dat3 m c).Φ 0 = talkIn m cfg3 hs3 (V4 m (outs m)) rights3 ke3 c := rfl
theorem inv3_last (c : Dev nD) : (dat3 m c).Φ (Fin.last cfg3.N) = talkOut cfg3 hs3 (V5 m (outs m)) 1 ke3 c := rfl
theorem owed3_first (c : Dev nD) : (dat3 m c).owed 0 = O3 c := rfl
theorem owed3_last (c : Dev nD) : (dat3 m c).owed (Fin.last cfg3.N) = O5 c := rfl

theorem row3 (t : Fin cfg3.N) : defs₀ (F := F) .tc cfg3.body (cfg3.bodyArgs t (cfg3.slots t))
    = cc3__return_body (F := F) (Memref.whole main_v24) (Memref.isWhole_whole _) (Memref.whole main_v25) (Memref.isWhole_whole _) cc3_scratch0 cc3_scratch1 := by
  unfold defs₀; rw [Defs.onTc_tc]

set_option maxHeartbeats 1000000 in
theorem ob3 (c : Dev nD) : BodyObligation (dat3 (F := F) m c) (defs₀ (F := F)) 𝒱₀ () Set.univ := fun t => by
  obtain rfl : t = t3_0 := Fin.ext (by have h1 : t.val < 1 := lt_of_lt_of_eq t.isLt N_3; have h2 : (t3_0 : Fin grid3.N).val = 0 := rfl; omega)
  rw [none_W, none_W, row3]
  rw [show (dat3 m c).Φ (t3_0 : Fin cfg3.N).castSucc = talkIn m cfg3 hs3 (V4 m (outs m)) rights3 ke3 c from rfl,
    show (dat3 m c).Φ (t3_0 : Fin cfg3.N).succ = talkOut cfg3 hs3 (V5 m (outs m)) 1 ke3 c from rfl]
  unfold talkIn talkOut begun
  rw [held3, held3, awake3, own3]
  rw [at4_v24, at5_v24, at5_v25]
  iintro ⟨⟨Hs, Hp, ⟨H24, H25⟩, #HR, #Hlev, Hr, Ha7, Ha8⟩, HO, -⟩
  ihave HO' := (TalkSites.owesAt_elim (dat3 m c) () _ (O3 c) rfl) $$ HO
  icases HO' with ⟨%W, HO⟩
  iapply (run3 (vals m) c W _)
  isplitl [H24 H25 Hr Ha7 Ha8 HO]
  · unfold pre3
    isplitr; · iexact HR
    isplitr; · iexact Hlev
    isplitl [Hr]; · iexact Hr
    isplitl [Ha7]; · iexact Ha7
    isplitl [Ha8]; · iexact Ha8
    isplitl [H25]; · iexists _; iexact H25
    isplitl [H24]; · iexact H24
    iexact HO
  unfold post3
  iintro ⟨Hb, Hv7, Hv8, H25, H24, ⟨%W', HO⟩⟩
  isplitr [HO]
  · isplitl [Hs]; · iexact Hs
    isplitl [Hp]; · iexact Hp
    isplitl [H24 H25]
    · isplitl [H24]; · iexact H24
      iexact H25
    isplitl [Hv7 Hv8]
    · isplitl [Hv7]; · iexact Hv7
      iexact Hv8
    iexact Hb
  isplitl [HO]; · iapply (TalkSites.owesAt_intro (dat3 m c) () (t3_0 : Fin cfg3.N).succ (O5 c) rfl rfl W'); iexact HO
  iempintro

/-! ### Region 5 -/

theorem awake5 (c : Dev nD) : (awake ke5 c : sProp 𝕄) = iprop((at0 c 9 ∗ rch c 9) ∗ (at0 c 10 ∗ rch c 10) ∗ (at0 c 11 ∗ rch c 11) ∗ (at0 c 12 ∗ rch c 12) ∗ (at0 c 13 ∗ rch c 13)) := by
  unfold awake; rw [bigSep_univ_eq_bigSepL [0, 1, 2, 3, 4] (by decide) (by decide)]; rfl
theorem own5 (c : Dev nD) : (Pipeline.ownSems0 (osm ke5) c : sProp 𝕄) = iprop(val0 c 9 ∗ val0 c 10 ∗ val0 c 11 ∗ val0 c 12 ∗ val0 c 13) := by
  unfold Pipeline.ownSems0; rw [bigSep_univ_eq_bigSepL [0, 1, 2, 3, 4] (by decide) (by decide)]; rfl

def dat5 (c : Dev nD) : Dat τ (Elt F) Unit ℕ UU ℕ cfg5 c where
  A w := w.elim0
  after w := w.elim0
  Φ t := if t.val = 0 then talkIn m cfg5 hs5 (V6 m (outs m)) rights5 ke5 c else talkOut cfg5 hs5 (V7 m (outs m)) 2 ke5 c
  q w := w.elim0
  owed t := if t.val = 0 then O5 c else owe [] c

theorem inv5_first (c : Dev nD) : (dat5 m c).Φ 0 = talkIn m cfg5 hs5 (V6 m (outs m)) rights5 ke5 c := rfl
theorem inv5_last (c : Dev nD) : (dat5 m c).Φ (Fin.last cfg5.N) = talkOut cfg5 hs5 (V7 m (outs m)) 2 ke5 c := rfl
theorem owed5_first (c : Dev nD) : (dat5 m c).owed 0 = O5 c := rfl
theorem owed5_last (c : Dev nD) : (dat5 m c).owed (Fin.last cfg5.N) = owe [] c := rfl

theorem row5 (t : Fin cfg5.N) : defs₀ (F := F) .tc cfg5.body (cfg5.bodyArgs t (cfg5.slots t))
    = cc5__ag_body (F := F) (Memref.whole main_v26) (Memref.isWhole_whole _) (Memref.whole main_v27) (Memref.isWhole_whole _) cc5_scratch0 cc5_scratch1 cc5_scratch2 := by
  unfold defs₀; rw [Defs.onTc_tc]

set_option maxHeartbeats 1000000 in
theorem ob5 (c : Dev nD) : BodyObligation (dat5 (F := F) m c) (defs₀ (F := F)) 𝒱₀ () Set.univ := fun t => by
  obtain rfl : t = t5_0 := Fin.ext (by have h1 : t.val < 1 := lt_of_lt_of_eq t.isLt N_5; have h2 : (t5_0 : Fin grid5.N).val = 0 := rfl; omega)
  rw [none_W, none_W, row5]
  rw [show (dat5 m c).Φ (t5_0 : Fin cfg5.N).castSucc = talkIn m cfg5 hs5 (V6 m (outs m)) rights5 ke5 c from rfl,
    show (dat5 m c).Φ (t5_0 : Fin cfg5.N).succ = talkOut cfg5 hs5 (V7 m (outs m)) 2 ke5 c from rfl]
  unfold talkIn talkOut begun
  rw [held5, held5, awake5, own5]
  rw [at6_v26, at7_v26, at7_v27]
  iintro ⟨⟨Hs, Hp, ⟨H26, H27⟩, #HR, #Hlev, Hr, Ha⟩, HO, -⟩
  ihave HO' := (TalkSites.owesAt_elim (dat5 m c) () _ (O5 c) rfl) $$ HO
  icases HO' with ⟨%W, HO⟩
  iapply (run5 (vals m) c W _)
  isplitl [H26 H27 Hr Ha HO]
  · unfold pre5
    isplitr; · iexact HR
    isplitr; · iexact Hlev
    isplitl [Hr]; · iexact Hr
    isplitl [Ha]; · iexact Ha
    isplitl [H27]; · iexists _; iexact H27
    isplitl [H26]; · iexact H26
    iexact HO
  unfold post5
  iintro ⟨Hb, Hv, H27, H26, ⟨%W', HO⟩⟩
  isplitr [HO]
  · isplitl [Hs]; · iexact Hs
    isplitl [Hp]; · iexact Hp
    isplitl [H26 H27]
    · isplitl [H26]; · iexact H26
      iexact H27
    isplitl [Hv]; · iexact Hv
    iexact Hb
  isplitl [HO]; · iapply (TalkSites.owesAt_intro (dat5 m c) () (t5_0 : Fin cfg5.N).succ (owe [] c) rfl rfl W'); iexact HO
  iempintro

end Cert.KernelIdeal.Talk

end
-- ==== Proof.Regs.lean ====
/- The six regions as segments of the program, each from the thread state before it to the one after it. -/
module

public import proofs.«01_k».proof.Proof.TalkDat
public import proofs.«01_k».proof.Proof.Gen.KernelIdeal.Skeleton
public import Idealize.ShloMosaic.Lib.Pipeline.TalkSched

@[expose] public section

set_option maxRecDepth 16384

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- The six regions' data. -/
def pdats : (p : Fin 6) → (c : Dev nD) → Dat τ (Elt F) Unit ℕ UU ℕ (cfgs p) c
  | 0 => dat0 m
  | 1 => dat1 (V2 m (outs m))
  | 2 => dat2 (V3 m (outs m))
  | 3 => dat3 m
  | 4 => dat4 (V5 m (outs m))
  | 5 => dat5 m
  | ⟨_ + 6, h⟩ => absurd h (Nat.not_lt.2 (Nat.le_add_left _ _))

local notation "ℝ𝕊" => Pipeline.RegionSeg (pcfgs (F := F)) Gen.adm (pdats m) () defs₀ 𝒱₀ L lv

/-! ## What rides beside the arrays between the regions -/

def later3 (c : Dev nD) : sProp 𝕄 := iprop(rights3 c ∗ asleep ke3 c)
def later5 (c : Dev nD) : sProp 𝕄 := iprop(rights5 c ∗ asleep ke5 c)

/-- The generator register, the rights `Q`, and what is still owed. -/
def ride (Q : Dev nD → sProp 𝕄) (O : Dev nD → CellTallies nD τ sig Unit) (c : Dev nD) : sProp 𝕄 :=
  iprop((∃ r, prngReg c r) ∗ Q c ∗ ∃ W, owes (c : Thread nD τ) (O c) W)

def q0 (c : Dev nD) : sProp 𝕄 := iprop(recs (vals m) ∗ (rights0 c ∗ asleep ke0 c) ∗ later3 c ∗ later5 c)
def q1 (c : Dev nD) : sProp 𝕄 := iprop(val0 c 0 ∗ recs (vals m) ∗ later3 c ∗ later5 c)
def q4 (c : Dev nD) : sProp 𝕄 := iprop(val0 c 1 ∗ val0 c 0 ∗ recs (vals m) ∗ later5 c)
def q6 (c : Dev nD) : sProp 𝕄 := iprop(val0 c 2 ∗ val0 c 1 ∗ val0 c 0)

def E : Fin 7 → Dev nD → sProp 𝕄
  | 0 => ride (q0 m) O0
  | 1 => ride (q1 m) O3
  | 2 => ride (q1 m) O3
  | 3 => ride (q1 m) O3
  | 4 => ride (q4 m) O5
  | 5 => ride (q4 m) O5
  | 6 => ride q6 (owe [])

/-! ## The compute regions -/

/-- Arrays `A` at contents before and after, the other arrays untouched: the whole before splits, the whole after is put together. -/
theorem held_before (c : Dev nD) {A S : Finset (DevRef τ sig)} (hA : A ⊆ S) (W : Valuation τ sig (Elt F)) (Q : Dev nD → sProp 𝕄) (O : Dev nD → CellTallies nD τ sig Unit) :
    iprop(StableHlo.held (c : Thread nD τ) S W ∗ ride Q O c)
      ⊢ (iprop(StableHlo.held (c : Thread nD τ) A W ∗ (∃ r, prngReg c r) ∗ (StableHlo.held (c : Thread nD τ) (S \ A) W ∗ Q c) ∗ ∃ Wd, owes (c : Thread nD τ) (O c) Wd) : sProp 𝕄) := by
  rw [StableHlo.held_sub_split (c : Thread nD τ) hA W]
  unfold ride
  iintro ⟨⟨Ha, Hr⟩, Hp, HQ, HO⟩
  isplitl [Ha]; · iexact Ha
  isplitl [Hp]; · iexact Hp
  isplitl [Hr HQ]
  · isplitl [Hr]; · iexact Hr
    iexact HQ
  iexact HO
theorem held_after (c : Dev nD) {A S : Finset (DevRef τ sig)} (hA : A ⊆ S) (W W' : Valuation τ sig (Elt F)) (h : ∀ b ∈ S \ A, W b = W' b) (Q : Dev nD → sProp 𝕄) (O : Dev nD → CellTallies nD τ sig Unit) :
    (iprop(StableHlo.held (c : Thread nD τ) A W' ∗ (∃ r, prngReg c r) ∗ (StableHlo.held (c : Thread nD τ) (S \ A) W ∗ Q c) ∗ ∃ Wd, owes (c : Thread nD τ) (O c) Wd) : sProp 𝕄)
      ⊢ iprop(StableHlo.held (c : Thread nD τ) S W' ∗ ride Q O c) := by
  rw [StableHlo.held_sub_split (c : Thread nD τ) hA W', ← StableHlo.held_congr (c : Thread nD τ) h]
  unfold ride
  iintro ⟨Ha, Hp, ⟨Hr, HQ⟩, HO⟩
  isplitl [Ha Hr]
  · isplitl [Ha]; · iexact Ha
    iexact Hr
  isplitl [Hp]; · iexact Hp
  isplitl [HQ]; · iexact HQ
  iexact HO

theorem lv_none (c : Dev nD) (s : SemLoc sig) (h : kind s = none) : lv ((c : Thread nD τ), s) () = 0 := by
  unfold lv; rw [show kind ((c : Thread nD τ), s).2 = none from h]

theorem levels3 : ∀ i ∈ ([3, 4, 5, 6, 7, 8] : List (Fin 9)), 0 < lvl (kk i) := by decide
theorem levels5 : ∀ i ∈ ([5, 6, 7, 8] : List (Fin 9)), 0 < lvl (kk i) := by decide

/-! ### Region 1 -/

theorem quiet1 : ∀ (w : Fin cfg1.W) (s : Fin (cfg1.win w).nbuf), kind (.dma ((cfg1.win w).sem s)) = none := by decide

theorem last1 (c : Dev nD) : ∀ w : Fin cfg1.W, (dat1 (V2 m (outs m)) c).arrAt w cfg1.N = V3 m (outs m) c (Proc.devRef .tc (Pipeline.arrRef spec1 w))
  | ⟨0, _⟩ => ((dat1 (V2 m (outs m)) c).arrAt_in 0 rfl _).trans (V3_of m (outs m) c main_v15 (by decide)).symm
  | ⟨1, _⟩ => ((dat1 (V2 m (outs m)) c).arrAt_in 1 rfl _).trans (V3_of m (outs m) c main_v21 (by decide)).symm
  | ⟨2, _⟩ => ((dat1 (V2 m (outs m)) c).arrAt_in 2 rfl _).trans (V3_of m (outs m) c main_arg2 (by decide)).symm
  | ⟨3, _⟩ => ((dat1 (V2 m (outs m)) c).arrAt_in 3 rfl _).trans (V3_of m (outs m) c main_arg3 (by decide)).symm
  | ⟨4, _⟩ => (final1 (V2 m (outs m)) c).trans ((sum1_eq m c).trans (at3_v23 m c).symm)

set_option backward.isDefEq.respectTransparency.types false in
def reg1 : ℝ𝕊 1 :=
  Pipeline.RegionSeg.ofHeld (pcfgs (F := F)) Gen.adm (pdats m) () defs₀ 𝒱₀ L lv 1 O3 (fun c => iprop(∃ r, prngReg c r)) (fun c => iprop(∃ r, prngReg c r))
    launch1.toP rfl (fun c => (ob1 (V2 m (outs m)) c).loose) (fun _ _ => rfl) (fun _ => rfl) (fun c => (dat1 (V2 m (outs m)) c).share_full fun _ => rfl)
    (fun _ => .rfl) (fun _ => .rfl) (fun _ => 0)
    ⟨fun c w s => by rw [L_tc]; exact Finset.mem_singleton_self _, fun c w s => (lv_none c _ (quiet1 w s)).le, fun c g i h => owe_level levels3 h⟩
    (fun c => iprop(StableHlo.held (c : Thread nD τ) (Pipeline.ucRefs τ sig \ Pipeline.arrRefs spec1) (V2 m (outs m) c) ∗ q1 m c))
    (V2 m (outs m)) (V3 m (outs m)) (fun _ _ => rfl) (last1 m)

theorem sub1 : (Pipeline.arrRefs spec1 : Finset (DevRef τ sig)) ⊆ Pipeline.ucRefs τ sig := Pipeline.arrRefs_sub_ucRefs spec1 (by decide)

theorem pre1' (c : Dev nD) : iprop(StableHlo.held (c : Thread nD τ) (Pipeline.ucRefs τ sig) (V2 m (outs m) c) ∗ E m 1 c) ⊢ (reg1 m).pre c :=
  held_before c sub1 (V2 m (outs m) c) (q1 m) O3
theorem post1' (c : Dev nD) : (reg1 m).post c ⊢ iprop(StableHlo.held (c : Thread nD τ) (Pipeline.ucRefs τ sig) (V3 m (outs m) c) ∗ E m 2 c) :=
  held_after c sub1 (V2 m (outs m) c) (V3 m (outs m) c) (fun b hb => by
    refine (Function.update_of_ne ?_ _ _).symm
    rintro rfl
    exact (Finset.mem_sdiff.mp hb).2 (by decide)) (q1 m) O3

/-! ### Region 2 -/

theorem quiet2 : ∀ (w : Fin cfg2.W) (s : Fin (cfg2.win w).nbuf), kind (.dma ((cfg2.win w).sem s)) = none := by decide

theorem last2 (c : Dev nD) : ∀ w : Fin cfg2.W, (dat2 (V3 m (outs m)) c).arrAt w cfg2.N = V4 m (outs m) c (Proc.devRef .tc (Pipeline.arrRef spec2 w))
  | ⟨0, _⟩ => ((dat2 (V3 m (outs m)) c).arrAt_in 0 rfl _).trans (V4_of m (outs m) c main_v22_0 (by decide)).symm
  | ⟨1, _⟩ => ((dat2 (V3 m (outs m)) c).arrAt_in 1 rfl _).trans (V4_of m (outs m) c main_v22_1 (by decide)).symm
  | ⟨2, _⟩ => ((dat2 (V3 m (outs m)) c).arrAt_in 2 rfl _).trans (V4_of m (outs m) c main_arg2 (by decide)).symm
  | ⟨3, _⟩ => ((dat2 (V3 m (outs m)) c).arrAt_in 3 rfl _).trans (V4_of m (outs m) c main_arg3 (by decide)).symm
  | ⟨4, _⟩ => (final2 (V3 m (outs m)) c).trans ((sum2_eq m c).trans (at4_v24 m c).symm)

set_option backward.isDefEq.respectTransparency.types false in
def reg2 : ℝ𝕊 2 :=
  Pipeline.RegionSeg.ofHeld (pcfgs (F := F)) Gen.adm (pdats m) () defs₀ 𝒱₀ L lv 2 O3 (fun c => iprop(∃ r, prngReg c r)) (fun c => iprop(∃ r, prngReg c r))
    launch2.toP rfl (fun c => (ob2 (V3 m (outs m)) c).loose) (fun _ _ => rfl) (fun _ => rfl) (fun c => (dat2 (V3 m (outs m)) c).share_full fun _ => rfl)
    (fun _ => .rfl) (fun _ => .rfl) (fun _ => 0)
    ⟨fun c w s => by rw [L_tc]; exact Finset.mem_singleton_self _, fun c w s => (lv_none c _ (quiet2 w s)).le, fun c g i h => owe_level levels3 h⟩
    (fun c => iprop(StableHlo.held (c : Thread nD τ) (Pipeline.ucRefs τ sig \ Pipeline.arrRefs spec2) (V3 m (outs m) c) ∗ q1 m c))
    (V3 m (outs m)) (V4 m (outs m)) (fun _ _ => rfl) (last2 m)

theorem sub2 : (Pipeline.arrRefs spec2 : Finset (DevRef τ sig)) ⊆ Pipeline.ucRefs τ sig := Pipeline.arrRefs_sub_ucRefs spec2 (by decide)

theorem pre2' (c : Dev nD) : iprop(StableHlo.held (c : Thread nD τ) (Pipeline.ucRefs τ sig) (V3 m (outs m) c) ∗ E m 2 c) ⊢ (reg2 m).pre c :=
  held_before c sub2 (V3 m (outs m) c) (q1 m) O3
theorem post2' (c : Dev nD) : (reg2 m).post c ⊢ iprop(StableHlo.held (c : Thread nD τ) (Pipeline.ucRefs τ sig) (V4 m (outs m) c) ∗ E m 3 c) :=
  held_after c sub2 (V3 m (outs m) c) (V4 m (outs m) c) (fun b hb => by
    refine (Function.update_of_ne ?_ _ _).symm
    rintro rfl
    exact (Finset.mem_sdiff.mp hb).2 (by decide)) (q1 m) O3

/-! ### Region 4 -/

theorem quiet4 : ∀ (w : Fin cfg4.W) (s : Fin (cfg4.win w).nbuf), kind (.dma ((cfg4.win w).sem s)) = none := by decide

theorem last4 (c : Dev nD) : ∀ w : Fin cfg4.W, (dat4 (V5 m (outs m)) c).arrAt w cfg4.N = V6 m (outs m) c (Proc.devRef .tc (Pipeline.arrRef spec4 w))
  | ⟨0, _⟩ => ((dat4 (V5 m (outs m)) c).arrAt_in 0 rfl _).trans (V6_of m (outs m) c main_v23 (by decide)).symm
  | ⟨1, _⟩ => ((dat4 (V5 m (outs m)) c).arrAt_in 1 rfl _).trans (V6_of m (outs m) c main_v25 (by decide)).symm
  | ⟨2, _⟩ => (final4 (V5 m (outs m)) c).trans (by rw [at5_v23, at5_v25]; exact (at6_v26 m c).symm)

set_option backward.isDefEq.respectTransparency.types false in
def reg4 : ℝ𝕊 4 :=
  Pipeline.RegionSeg.ofHeld (pcfgs (F := F)) Gen.adm (pdats m) () defs₀ 𝒱₀ L lv 4 O5 (fun c => iprop(∃ r, prngReg c r)) (fun c => iprop(∃ r, prngReg c r))
    launch4.toP rfl (fun c => (ob4 (V5 m (outs m)) c).loose) (fun _ _ => rfl) (fun _ => rfl) (fun c => (dat4 (V5 m (outs m)) c).share_full fun _ => rfl)
    (fun _ => .rfl) (fun _ => .rfl) (fun _ => 0)
    ⟨fun c w s => by rw [L_tc]; exact Finset.mem_singleton_self _, fun c w s => (lv_none c _ (quiet4 w s)).le, fun c g i h => owe_level levels5 h⟩
    (fun c => iprop(StableHlo.held (c : Thread nD τ) (Pipeline.ucRefs τ sig \ Pipeline.arrRefs spec4) (V5 m (outs m) c) ∗ q4 m c))
    (V5 m (outs m)) (V6 m (outs m)) (fun _ _ => rfl) (last4 m)

theorem sub4 : (Pipeline.arrRefs spec4 : Finset (DevRef τ sig)) ⊆ Pipeline.ucRefs τ sig := Pipeline.arrRefs_sub_ucRefs spec4 (by decide)

theorem pre4' (c : Dev nD) : iprop(StableHlo.held (c : Thread nD τ) (Pipeline.ucRefs τ sig) (V5 m (outs m) c) ∗ E m 4 c) ⊢ (reg4 m).pre c :=
  held_before c sub4 (V5 m (outs m) c) (q4 m) O5
theorem post4' (c : Dev nD) : (reg4 m).post c ⊢ iprop(StableHlo.held (c : Thread nD τ) (Pipeline.ucRefs τ sig) (V6 m (outs m) c) ∗ E m 5 c) :=
  held_after c sub4 (V5 m (outs m) c) (V6 m (outs m) c) (fun b hb => by
    refine (Function.update_of_ne ?_ _ _).symm
    rintro rfl
    exact (Finset.mem_sdiff.mp hb).2 (by decide)) (q4 m) O5

/-! ## The communicating regions -/

theorem no_arrays {c : Dev nD} (W : Valuation τ sig (Elt F)) {S : Finset (DevRef τ sig)} (h : S = ∅) : (StableHlo.held (c : Thread nD τ) S W : sProp 𝕄) = BI.emp := by
  subst h; unfold StableHlo.held; exact bigSep_empty

/-! ### Region 0 -/

def dues0 (c : Dev nD) : CellTallies nD τ sig Unit := due 2 c + due 1 c + due 0 c
theorem owed0 (c : Dev nD) : O0 c = O3 c + dues0 c := by
  show owe _ c = owe _ c + (due 2 c + due 1 c + due 0 c)
  simp only [owe]; abel
theorem cut0 (c : Dev nD) (t : Fin (cfg0.N + 1)) (g : GSem nD τ sig) (i : Unit) (h : 0 < (dat0 (F := F) m c).owed t g i) : i ∈ L g ∧ (0 : ℕ) < lv g i := by
  have e : (dat0 (F := F) m c).owed t = if t.val = 0 then O0 c else O3 c := rfl
  rw [e] at h
  split at h
  · exact owe_level (by decide) h
  · exact owe_level (by decide) h
theorem rest0 (c : Dev nD) : ∀ b ∈ Pipeline.ucRefs τ sig \ hs0, V2 m (outs m) c b = V1 m c b := fun b hb => by
    unfold V2
    rw [Function.update_of_ne (show b ≠ Proc.devRef .tc main_v22_1 from fun h => (Finset.mem_sdiff.mp hb).2 (by subst h; decide))]
    rw [Function.update_of_ne (show b ≠ Proc.devRef .tc main_v22_0 from fun h => (Finset.mem_sdiff.mp hb).2 (by subst h; decide))]
    rw [Function.update_of_ne (show b ≠ Proc.devRef .tc main_v21 from fun h => (Finset.mem_sdiff.mp hb).2 (by subst h; decide))]
    rw [Function.update_of_ne (show b ≠ Proc.devRef .tc main_v15 from fun h => (Finset.mem_sdiff.mp hb).2 (by subst h; decide))]

theorem hs0_sub : hs0 ⊆ Pipeline.ucRefs τ sig := by
  intro b hb
  fin_cases hb <;> exact Finset.mem_filter.mpr ⟨StableHlo.devRef_mem_tcRefs _, by decide⟩

set_option backward.isDefEq.respectTransparency.types false in
def reg0 : ℝ𝕊 0 :=
  Pipeline.RegionSeg.ofTalk (pcfgs (F := F)) Gen.adm (pdats m) () defs₀ 𝒱₀ L lv 0 (osm ke0) (by decide : Pipeline.OwnSemFacts cfg0.spec (osm ke0))
    hs0 (Pipeline.ucRefs τ sig) hs0_sub launch0.toP rfl (fun c => (ob0 m c).loose)
    O3 dues0 owed0 (fun _ => rfl) (fun _ => rfl) (fun _ w => w.elim0)
    (V1 m) (V2 m (outs m)) (rest0 m)
    (kept m rights0 ke0) (fun c => val0 c 0) (begun m rights0 ke0) (fun c => val0 c 0) (wake m rights0 ke0)
    (fun _ => .rfl) (fun _ => .rfl) (fun c => by iintro H; imodintro; iexact H)
    (fun _ => 0) ⟨fun _ w => w.elim0, fun _ w => w.elim0, fun c t g i h => cut0 m c t g i h⟩
    (fun c => iprop(recs (vals m) ∗ later3 c ∗ later5 c)) (fun _ w => w.elim0) (fun _ w => w.elim0)

theorem arr0 : (Pipeline.arrRefs (cfg0.spec) : Finset (DevRef τ sig)) = ∅ := by decide

theorem reg0_pre (c : Dev nD) : (reg0 m).pre c = iprop(StableHlo.held (c : Thread nD τ) (Pipeline.arrRefs cfg0.spec) (V1 m c) ∗ (∃ r, prngReg c r)
    ∗ (StableHlo.held (c : Thread nD τ) (Pipeline.ucRefs τ sig) (V1 m c) ∗ iprop(recs (vals m) ∗ later3 c ∗ later5 c)) ∗ kept m rights0 ke0 c ∗ ∃ Wd, owes (c : Thread nD τ) (O3 c + dues0 c) Wd) := rfl
theorem reg0_post (c : Dev nD) : (reg0 m).post c = iprop(StableHlo.held (c : Thread nD τ) (Pipeline.arrRefs cfg0.spec) (V2 m (outs m) c) ∗ (∃ r, prngReg c r)
    ∗ (StableHlo.held (c : Thread nD τ) (Pipeline.ucRefs τ sig) (V2 m (outs m) c) ∗ iprop(recs (vals m) ∗ later3 c ∗ later5 c)) ∗ val0 c 0 ∗ ∃ Wd, owes (c : Thread nD τ) (O3 c) Wd) := rfl

theorem pre0' (c : Dev nD) : iprop(StableHlo.held (c : Thread nD τ) (Pipeline.ucRefs τ sig) (V1 m c) ∗ E m 0 c) ⊢ (reg0 m).pre c := by
  rw [reg0_pre, no_arrays (V1 m c) arr0, ← owed0]
  show iprop(_ ∗ ride (q0 m) O0 c) ⊢ _
  unfold ride q0 kept
  iintro ⟨Hh, Hp, ⟨#HR, ⟨Hr, Ha⟩, H3, H5⟩, HO⟩
  isplitr; · iempintro
  isplitl [Hp]; · iexact Hp
  isplitl [Hh H3 H5]
  · isplitl [Hh]; · iexact Hh
    isplitr; · iexact HR
    isplitl [H3]; · iexact H3
    iexact H5
  isplitl [Hr Ha]
  · isplitr; · iexact HR
    isplitl [Hr]; · iexact Hr
    iexact Ha
  iexact HO
theorem post0' (c : Dev nD) : (reg0 m).post c ⊢ iprop(StableHlo.held (c : Thread nD τ) (Pipeline.ucRefs τ sig) (V2 m (outs m) c) ∗ E m 1 c) := by
  rw [reg0_post, no_arrays (V2 m (outs m) c) arr0]
  show _ ⊢ iprop(_ ∗ ride (q1 m) O3 c)
  unfold ride q1
  iintro ⟨-, Hp, ⟨Hh, He⟩, Hv, HO⟩
  isplitl [Hh]; · iexact Hh
  isplitl [Hp]; · iexact Hp
  isplitl [He Hv]
  · isplitl [Hv]; · iexact Hv
    iexact He
  iexact HO

/-! ### Region 3 -/

def dues3 (c : Dev nD) : CellTallies nD τ sig Unit := due 4 c + due 3 c
theorem owed3 (c : Dev nD) : O3 c = O5 c + dues3 c := by
  show owe _ c = owe _ c + (due 4 c + due 3 c)
  simp only [owe]; abel
theorem cut3 (c : Dev nD) (t : Fin (cfg3.N + 1)) (g : GSem nD τ sig) (i : Unit) (h : 0 < (dat3 (F := F) m c).owed t g i) : i ∈ L g ∧ (0 : ℕ) < lv g i := by
  have e : (dat3 (F := F) m c).owed t = if t.val = 0 then O3 c else O5 c := rfl
  rw [e] at h
  split at h
  · exact owe_level (by decide) h
  · exact owe_level (by decide) h
theorem rest3 (c : Dev nD) : ∀ b ∈ Pipeline.ucRefs τ sig \ hs3, V5 m (outs m) c b = V4 m (outs m) c b := fun b hb => by
    unfold V5
    rw [Function.update_of_ne (show b ≠ Proc.devRef .tc main_v25 from fun h => (Finset.mem_sdiff.mp hb).2 (by subst h; decide))]
    rw [Function.update_of_ne (show b ≠ Proc.devRef .tc main_v24 from fun h => (Finset.mem_sdiff.mp hb).2 (by subst h; decide))]

theorem hs3_sub : hs3 ⊆ Pipeline.ucRefs τ sig := by
  intro b hb
  fin_cases hb <;> exact Finset.mem_filter.mpr ⟨StableHlo.devRef_mem_tcRefs _, by decide⟩

set_option backward.isDefEq.respectTransparency.types false in
def reg3 : ℝ𝕊 3 :=
  Pipeline.RegionSeg.ofTalk (pcfgs (F := F)) Gen.adm (pdats m) () defs₀ 𝒱₀ L lv 3 (osm ke3) (by decide : Pipeline.OwnSemFacts cfg3.spec (osm ke3))
    hs3 (Pipeline.ucRefs τ sig) hs3_sub launch3.toP rfl (fun c => (ob3 m c).loose)
    O5 dues3 owed3 (fun _ => rfl) (fun _ => rfl) (fun _ w => w.elim0)
    (V4 m (outs m)) (V5 m (outs m)) (rest3 m)
    (kept m rights3 ke3) (fun c => val0 c 1) (begun m rights3 ke3) (fun c => val0 c 1) (wake m rights3 ke3)
    (fun _ => .rfl) (fun _ => .rfl) (fun c => by iintro H; imodintro; iexact H)
    (fun _ => 0) ⟨fun _ w => w.elim0, fun _ w => w.elim0, fun c t g i h => cut3 m c t g i h⟩
    (fun c => iprop(val0 c 0 ∗ recs (vals m) ∗ later5 c)) (fun _ w => w.elim0) (fun _ w => w.elim0)

theorem arr3 : (Pipeline.arrRefs (cfg3.spec) : Finset (DevRef τ sig)) = ∅ := by decide

theorem reg3_pre (c : Dev nD) : (reg3 m).pre c = iprop(StableHlo.held (c : Thread nD τ) (Pipeline.arrRefs cfg3.spec) (V4 m (outs m) c) ∗ (∃ r, prngReg c r)
    ∗ (StableHlo.held (c : Thread nD τ) (Pipeline.ucRefs τ sig) (V4 m (outs m) c) ∗ iprop(val0 c 0 ∗ recs (vals m) ∗ later5 c)) ∗ kept m rights3 ke3 c ∗ ∃ Wd, owes (c : Thread nD τ) (O5 c + dues3 c) Wd) := rfl
theorem reg3_post (c : Dev nD) : (reg3 m).post c = iprop(StableHlo.held (c : Thread nD τ) (Pipeline.arrRefs cfg3.spec) (V5 m (outs m) c) ∗ (∃ r, prngReg c r)
    ∗ (StableHlo.held (c : Thread nD τ) (Pipeline.ucRefs τ sig) (V5 m (outs m) c) ∗ iprop(val0 c 0 ∗ recs (vals m) ∗ later5 c)) ∗ val0 c 1 ∗ ∃ Wd, owes (c : Thread nD τ) (O5 c) Wd) := rfl

theorem pre3' (c : Dev nD) : iprop(StableHlo.held (c : Thread nD τ) (Pipeline.ucRefs τ sig) (V4 m (outs m) c) ∗ E m 3 c) ⊢ (reg3 m).pre c := by
  rw [reg3_pre, no_arrays (V4 m (outs m) c) arr3, ← owed3]
  show iprop(_ ∗ ride (q1 m) O3 c) ⊢ _
  unfold ride q1 later3 kept
  iintro ⟨Hh, Hp, ⟨Hv, #HR, ⟨Hr, Ha⟩, H5⟩, HO⟩
  isplitr; · iempintro
  isplitl [Hp]; · iexact Hp
  isplitl [Hh Hv H5]
  · isplitl [Hh]; · iexact Hh
    isplitl [Hv]; · iexact Hv
    isplitr; · iexact HR
    iexact H5
  isplitl [Hr Ha]
  · isplitr; · iexact HR
    isplitl [Hr]; · iexact Hr
    iexact Ha
  iexact HO
theorem post3' (c : Dev nD) : (reg3 m).post c ⊢ iprop(StableHlo.held (c : Thread nD τ) (Pipeline.ucRefs τ sig) (V5 m (outs m) c) ∗ E m 4 c) := by
  rw [reg3_post, no_arrays (V5 m (outs m) c) arr3]
  show _ ⊢ iprop(_ ∗ ride (q4 m) O5 c)
  unfold ride q4
  iintro ⟨-, Hp, ⟨Hh, He⟩, Hv, HO⟩
  isplitl [Hh]; · iexact Hh
  isplitl [Hp]; · iexact Hp
  isplitl [He Hv]
  · isplitl [Hv]; · iexact Hv
    iexact He
  iexact HO

/-! ### Region 5 -/

def dues5 (c : Dev nD) : CellTallies nD τ sig Unit := due 8 c + due 7 c + due 6 c + due 5 c
theorem owed5 (c : Dev nD) : O5 c = (owe []) c + dues5 c := by
  show owe _ c = owe _ c + (due 8 c + due 7 c + due 6 c + due 5 c)
  simp only [owe]; abel
theorem cut5 (c : Dev nD) (t : Fin (cfg5.N + 1)) (g : GSem nD τ sig) (i : Unit) (h : 0 < (dat5 (F := F) m c).owed t g i) : i ∈ L g ∧ (0 : ℕ) < lv g i := by
  have e : (dat5 (F := F) m c).owed t = if t.val = 0 then O5 c else (owe []) c := rfl
  rw [e] at h
  split at h
  · exact owe_level (by decide) h
  · exact owe_level (by decide) h
theorem rest5 (c : Dev nD) : ∀ b ∈ Pipeline.ucRefs τ sig \ hs5, V7 m (outs m) c b = V6 m (outs m) c b := fun b hb => by
    unfold V7
    rw [Function.update_of_ne (show b ≠ Proc.devRef .tc main_v27 from fun h => (Finset.mem_sdiff.mp hb).2 (by subst h; decide))]
    rw [Function.update_of_ne (show b ≠ Proc.devRef .tc main_v26 from fun h => (Finset.mem_sdiff.mp hb).2 (by subst h; decide))]

theorem hs5_sub : hs5 ⊆ Pipeline.ucRefs τ sig := by
  intro b hb
  fin_cases hb <;> exact Finset.mem_filter.mpr ⟨StableHlo.devRef_mem_tcRefs _, by decide⟩

set_option backward.isDefEq.respectTransparency.types false in
def reg5 : ℝ𝕊 5 :=
  Pipeline.RegionSeg.ofTalk (pcfgs (F := F)) Gen.adm (pdats m) () defs₀ 𝒱₀ L lv 5 (osm ke5) (by decide : Pipeline.OwnSemFacts cfg5.spec (osm ke5))
    hs5 (Pipeline.ucRefs τ sig) hs5_sub launch5.toP rfl (fun c => (ob5 m c).loose)
    (owe []) dues5 owed5 (fun _ => rfl) (fun _ => rfl) (fun _ w => w.elim0)
    (V6 m (outs m)) (V7 m (outs m)) (rest5 m)
    (kept m rights5 ke5) (fun c => val0 c 2) (begun m rights5 ke5) (fun c => val0 c 2) (wake m rights5 ke5)
    (fun _ => .rfl) (fun _ => .rfl) (fun c => by iintro H; imodintro; iexact H)
    (fun _ => 0) ⟨fun _ w => w.elim0, fun _ w => w.elim0, fun c t g i h => cut5 m c t g i h⟩
    (fun c => iprop(val0 c 1 ∗ val0 c 0)) (fun _ w => w.elim0) (fun _ w => w.elim0)

theorem arr5 : (Pipeline.arrRefs (cfg5.spec) : Finset (DevRef τ sig)) = ∅ := by decide

theorem reg5_pre (c : Dev nD) : (reg5 m).pre c = iprop(StableHlo.held (c : Thread nD τ) (Pipeline.arrRefs cfg5.spec) (V6 m (outs m) c) ∗ (∃ r, prngReg c r)
    ∗ (StableHlo.held (c : Thread nD τ) (Pipeline.ucRefs τ sig) (V6 m (outs m) c) ∗ iprop(val0 c 1 ∗ val0 c 0)) ∗ kept m rights5 ke5 c ∗ ∃ Wd, owes (c : Thread nD τ) ((owe []) c + dues5 c) Wd) := rfl
theorem reg5_post (c : Dev nD) : (reg5 m).post c = iprop(StableHlo.held (c : Thread nD τ) (Pipeline.arrRefs cfg5.spec) (V7 m (outs m) c) ∗ (∃ r, prngReg c r)
    ∗ (StableHlo.held (c : Thread nD τ) (Pipeline.ucRefs τ sig) (V7 m (outs m) c) ∗ iprop(val0 c 1 ∗ val0 c 0)) ∗ val0 c 2 ∗ ∃ Wd, owes (c : Thread nD τ) ((owe []) c) Wd) := rfl

theorem pre5' (c : Dev nD) : iprop(StableHlo.held (c : Thread nD τ) (Pipeline.ucRefs τ sig) (V6 m (outs m) c) ∗ E m 5 c) ⊢ (reg5 m).pre c := by
  rw [reg5_pre, no_arrays (V6 m (outs m) c) arr5, ← owed5]
  show iprop(_ ∗ ride (q4 m) O5 c) ⊢ _
  unfold ride q4 later5 kept
  iintro ⟨Hh, Hp, ⟨Hv, Hv', #HR, ⟨Hr, Ha⟩⟩, HO⟩
  isplitr; · iempintro
  isplitl [Hp]; · iexact Hp
  isplitl [Hh Hv Hv']
  · isplitl [Hh]; · iexact Hh
    isplitl [Hv]; · iexact Hv
    iexact Hv'
  isplitl [Hr Ha]
  · isplitr; · iexact HR
    isplitl [Hr]; · iexact Hr
    iexact Ha
  iexact HO
theorem post5' (c : Dev nD) : (reg5 m).post c ⊢ iprop(StableHlo.held (c : Thread nD τ) (Pipeline.ucRefs τ sig) (V7 m (outs m) c) ∗ E m 6 c) := by
  rw [reg5_post, no_arrays (V7 m (outs m) c) arr5]
  show _ ⊢ iprop(_ ∗ ride (q6) (owe []) c)
  unfold ride q6
  iintro ⟨-, Hp, ⟨Hh, He⟩, Hv, HO⟩
  isplitl [Hh]; · iexact Hh
  isplitl [Hp]; · iexact Hp
  isplitl [He Hv]
  · isplitl [Hv]; · iexact Hv
    iexact He
  iexact HO

end Cert.KernelIdeal.Talk

end
-- ==== Proof.Start.lean ====
/- The launch: the conversation's counters, rights and credits dealt to the devices, and the run of the whole program. -/
module

public import proofs.«01_k».proof.Proof.Regs
public import proofs.«01_k».proof.Proof.Gen.KernelIdeal.Skeleton
public import Idealize.ShloMosaic.Lib.Pipeline.TalkSched
public import Idealize.ShloMosaic.Harness.Basic

@[expose] public section

set_option maxRecDepth 16384

noncomputable section

namespace Cert.KernelIdeal.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The cells and the rights at the launch -/

theorem cell_two {c c' : Dev nD} {k k' : Fin 14} (h : cell c k = cell c' k') : c = c' ∧ k = k' := by
  have e := @cell_inj (c, k) (c', k') h
  exact ⟨congrArg Prod.fst e, congrArg Prod.snd e⟩

def barEmb : Dev nD × Fin 3 ↪ GSem nD τ sig :=
  ⟨fun ck => cell ck.1 (ck.2.castLE (by decide)), fun _ _ h => by
    have e := cell_two h; exact Prod.ext e.1 (Fin.castLE_injective _ e.2)⟩
def slpEmb : Dev nD × Fin 11 ↪ GSem nD τ sig :=
  ⟨fun ck => cell ck.1 (Fin.natAdd 3 ck.2), fun _ _ h => by
    have e := cell_two h; exact Prod.ext e.1 (Fin.natAdd_injective _ _ e.2)⟩

/-- The counters every region sees, which are funded from their values, and those of one region, which sleep. -/
abbrev barCells : Finset (GSem nD τ sig) := Finset.univ.map barEmb
abbrev slpCells : Finset (GSem nD τ sig) := Finset.univ.map slpEmb

/-- The duties of a device's cells, -/
def tk : Fin 15 → Fin 14 × Bool
  | 0 => (0, false) | 1 => (1, false) | 2 => (2, false) | 3 => (2, true) | 4 => (3, false) | 5 => (4, false) | 6 => (5, false)
  | 7 => (6, false) | 8 => (7, false) | 9 => (8, false) | 10 => (9, false) | 11 => (10, false) | 12 => (11, false)
  | 13 => (12, false) | 14 => (13, false)
theorem tk_inj : Function.Injective tk := by decide
/-- and who pays each. -/
def payer (i : Fin 15) (c : Dev nD) : Dev nD :=
  match i with
  | 0 => px c | 1 => px c | 2 => pz c | 3 => py c | 4 => c | 5 => c | 6 => px c | 7 => px c | 8 => c | 9 => px c
  | 10 => c | 11 => c | 12 => c | 13 => pz c | 14 => py c
theorem payer_payer (i : Fin 15) (c : Dev nD) : payer i (payer i c) = c := by
  fin_cases i <;> first | rfl | exact px_px c | exact py_py c | exact pz_pz c

def paid : Dev nD × Fin 15 ≃ Dev nD × Fin 15 where
  toFun ci := (payer ci.2 ci.1, ci.2)
  invFun ci := (payer ci.2 ci.1, ci.2)
  left_inv ci := Prod.ext (payer_payer _ _) rfl
  right_inv ci := Prod.ext (payer_payer _ _) rfl

def talkToks : Finset (GSem nD τ sig × ℕ × Bool) :=
  Finset.univ.map ⟨fun ci : Dev nD × Fin 15 => (cell ci.1 (tk ci.2).1, 0, (tk ci.2).2), fun a b h => by
    have e := cell_two (congrArg Prod.fst h)
    exact Prod.ext e.1 (tk_inj (Prod.ext e.2 (congrArg (fun t : GSem nD τ sig × ℕ × Bool => t.2.2) h)))⟩

theorem disjoint_cells : Disjoint (barCells : Finset (GSem nD τ sig)) slpCells := by
  rw [Finset.disjoint_left]
  rintro g h₁ h₂
  obtain ⟨a, -, rfl⟩ := Finset.mem_map.mp h₁
  obtain ⟨b, -, h⟩ := Finset.mem_map.mp h₂
  have e := congrArg Fin.val (cell_two h).2
  have := a.2.isLt
  simp only [Fin.val_natAdd, Fin.val_castLE] at e
  omega

theorem cell_mem (c : Dev nD) (k : Fin 14) : cell c k ∈ (barCells ∪ slpCells : Finset (GSem nD τ sig)) := by
  by_cases h : k.val < 3
  · exact Finset.mem_union_left _ (Finset.mem_map.mpr ⟨(c, ⟨k.val, h⟩), Finset.mem_univ _, rfl⟩)
  · refine Finset.mem_union_right _ (Finset.mem_map.mpr ⟨(c, ⟨k.val - 3, by omega⟩), Finset.mem_univ _, ?_⟩)
    exact congrArg (cell c) (Fin.ext (by simp only [Fin.val_natAdd]; omega))

def u₀ : UU :=
  (initOf (Pipeline.cells (Pipeline.pin (pcfgs (F := F)) Gen.adm) cellOf_inj) (Pipeline.launchToks (Pipeline.pin (pcfgs (F := F)) Gen.adm) cellOf_inj),
    launchOf barCells slpCells talkToks)

/-- The launch's share of the conversation, kept by one device until it is dealt. -/
def share (c : Dev nD) : sProp 𝕄 := if c = 0 then BI.own (ER (launchOf barCells slpCells talkToks)) else iprop(emp)
theorem share_all : bigSep Finset.univ (share (F := F)) = BI.own (ER (launchOf barCells slpCells talkToks)) := by
  rw [bigSep_univ_at _ (0 : Dev nD), bigSep_congr (s := Finset.univ.erase (0 : Dev nD)) (Ψ := fun _ => (BI.emp : sProp 𝕄))
      fun c hc => by unfold share; rw [if_neg (Finset.ne_of_mem_erase hc)]; rfl, BI.bigSep_emp_const]
  unfold share; rw [if_pos rfl]
  exact BI.equiv_iff.mp sep_emp

theorem recs_intro (κ : GSem nD τ sig → ℕ) :
    iprop((bigSep (barCells ∪ slpCells) fun g => cellInv ER (rd (vals m)) (κ g) g) ∗ bigSep barCells fun g => reached ER g 0)
      ⊢ (recs (vals m) : sProp 𝕄) := by
  unfold recs
  iintro ⟨#HI, #HR⟩
  iexists κ
  isplitr
  · iapply (bigSep_with_persistent (S := Finset.univ) (R := bigSep (barCells ∪ slpCells) fun g => cellInv ER (rd (vals m)) (κ g) g)
      (Φ := fun _ : Dev nD × Fin 14 => (BI.emp : sProp 𝕄)) fun ck _ => by
        iintro ⟨#H, -⟩
        iapply (show (bigSep (barCells ∪ slpCells) fun g => (cellInv ER (rd (vals m)) (κ g) g : sProp 𝕄))
          ⊢ cellInv ER (rd (vals m)) (κ (cell ck.1 ck.2)) (cell ck.1 ck.2) from bigSep_elim (cell_mem ck.1 ck.2))
        iexact H)
    isplitr
    · iexact HI
    · rw [BI.bigSep_emp_const]; iempintro
  · iapply (Entails.of_eq (bigSep_map barEmb (s := Finset.univ) (Φ := fun g => (reached ER g 0 : sProp 𝕄))))
    iexact HR

/-- A device's rights at the launch: its positions, its sleeping cells, and the duties it pays. -/
def linear (c : Dev nD) : sProp 𝕄 :=
  iprop((bigSep Finset.univ fun k : Fin 3 => at0 c (k.castLE (by decide))) ∗ (bigSep Finset.univ fun k : Fin 11 => openTok ER (cell c (Fin.natAdd 3 k)))
    ∗ bigSep Finset.univ fun i : Fin 15 => tok (payer i c) (tk i).1 (tk i).2)

theorem toks_around : bigSep talkToks (fun x => (dutyTok ER x.1 x.2.1 x.2.2 : sProp 𝕄))
    = bigSep Finset.univ fun c : Dev nD => bigSep Finset.univ fun i : Fin 15 => tok (payer i c) (tk i).1 (tk i).2 := by
  unfold talkToks
  rw [bigSep_map, bigSep_univ_equiv paid, bigSep_univ_prod]
  rfl

theorem positions (c : Dev nD) : (bigSep Finset.univ fun k : Fin 3 => (at0 c (k.castLE (by decide)) : sProp 𝕄)) = iprop(at0 c 0 ∗ at0 c 1 ∗ at0 c 2) := by
  rw [bigSep_univ_eq_bigSepL [0, 1, 2] (by decide) (by decide)]; rfl

theorem sleepers (c : Dev nD) : (bigSep Finset.univ fun k : Fin 11 => (openTok ER (cell c (Fin.natAdd 3 k)) : sProp 𝕄))
    ⊢ iprop(asleep ke0 c ∗ asleep ke3 c ∗ asleep ke5 c) := by
  unfold asleep
  rw [bigSep_univ_eq_bigSepL [0, 1, 2, 3, 4, 5, 6, 7, 8, 9, 10] (by decide) (by decide),
    bigSep_univ_eq_bigSepL (I := Fin 4) [0, 1, 2, 3] (by decide) (by decide), bigSep_univ_eq_bigSepL (I := Fin 2) [0, 1] (by decide) (by decide),
    bigSep_univ_eq_bigSepL (I := Fin 5) [0, 1, 2, 3, 4] (by decide) (by decide)]
  show iprop(openTok ER (cell c 3) ∗ openTok ER (cell c 4) ∗ openTok ER (cell c 5) ∗ openTok ER (cell c 6) ∗ openTok ER (cell c 7)
      ∗ openTok ER (cell c 8) ∗ openTok ER (cell c 9) ∗ openTok ER (cell c 10) ∗ openTok ER (cell c 11) ∗ openTok ER (cell c 12) ∗ openTok ER (cell c 13))
    ⊢ (iprop((openTok ER (cell c 3) ∗ openTok ER (cell c 4) ∗ openTok ER (cell c 5) ∗ openTok ER (cell c 6))
      ∗ (openTok ER (cell c 7) ∗ openTok ER (cell c 8))
      ∗ (openTok ER (cell c 9) ∗ openTok ER (cell c 10) ∗ openTok ER (cell c 11) ∗ openTok ER (cell c 12) ∗ openTok ER (cell c 13))) : sProp 𝕄)
  iintro ⟨H3, H4, H5, H6, H7, H8, H9, H10, H11, H12, H13⟩
  isplitl [H3 H4 H5 H6]
  · isplitl [H3]; · iexact H3
    isplitl [H4]; · iexact H4
    isplitl [H5]; · iexact H5
    iexact H6
  isplitl [H7 H8]
  · isplitl [H7]; · iexact H7
    iexact H8
  isplitl [H9]; · iexact H9
  isplitl [H10]; · iexact H10
  isplitl [H11]; · iexact H11
  isplitl [H12]; · iexact H12
  iexact H13

theorem duties (c : Dev nD) : (bigSep Finset.univ fun i : Fin 15 => (tok (payer i c) (tk i).1 (tk i).2 : sProp 𝕄))
    = iprop(tok (px c) 0 false ∗ tok (px c) 1 false ∗ tok (pz c) 2 false ∗ tok (py c) 2 true ∗ tok c 3 false ∗ tok c 4 false ∗ tok (px c) 5 false
      ∗ tok (px c) 6 false ∗ tok c 7 false ∗ tok (px c) 8 false ∗ tok c 9 false ∗ tok c 10 false ∗ tok c 11 false ∗ tok (pz c) 12 false ∗ tok (py c) 13 false) := by
  rw [bigSep_univ_eq_bigSepL [0, 1, 2, 3, 4, 5, 6, 7, 8, 9, 10, 11, 12, 13, 14] (by decide) (by decide)]; rfl

/-! ## What the devices are owed at the launch -/

theorem credit (i : Fin 9) (l : List (Fin 9)) (c : Dev nD) :
    (Pipeline.launchCred (owe (i :: l)) c : sProp 𝕄) ⊢ iprop(Pipeline.launchCred (owe l) c ∗ crd c (kk i) (amt (kk i))) := by
  rw [show (owe (i :: l)) = fun d => owe l d + due i d from rfl, Pipeline.launchCred_add]
  exact BI.sep_mono (BI.Entails.refl _) (Pipeline.launchCred_tallyAt (sm (kk i)) (own i) (own i) (own_own i) (own_own i) () _ c)

theorem credits (c : Dev nD) : (Pipeline.launchCred O0 c : sProp 𝕄)
    ⊢ iprop(crd c 0 1 ∗ crd c 5 NX ∗ crd c 6 NA ∗ crd c 1 1 ∗ crd c 8 NX ∗ crd c 2 2 ∗ crd c 12 NX ∗ crd c 13 NH) := by
  iintro H
  ihave H := (credit (F := F) 0 [1, 2, 3, 4, 5, 6, 7, 8] c) $$ H; icases H with ⟨H, C0⟩
  ihave H := (credit (F := F) 1 [2, 3, 4, 5, 6, 7, 8] c) $$ H; icases H with ⟨H, C1⟩
  ihave H := (credit (F := F) 2 [3, 4, 5, 6, 7, 8] c) $$ H; icases H with ⟨H, C2⟩
  ihave H := (credit (F := F) 3 [4, 5, 6, 7, 8] c) $$ H; icases H with ⟨H, C3⟩
  ihave H := (credit (F := F) 4 [5, 6, 7, 8] c) $$ H; icases H with ⟨H, C4⟩
  ihave H := (credit (F := F) 5 [6, 7, 8] c) $$ H; icases H with ⟨H, C5⟩
  ihave H := (credit (F := F) 6 [7, 8] c) $$ H; icases H with ⟨H, C6⟩
  ihave H := (credit (F := F) 7 [8] c) $$ H; icases H with ⟨H, C7⟩
  ihave H := (credit (F := F) 8 [] c) $$ H; icases H with ⟨-, C8⟩
  isplitl [C0]; · iexact C0
  isplitl [C1]; · iexact C1
  isplitl [C2]; · iexact C2
  isplitl [C3]; · iexact C3
  isplitl [C4]; · iexact C4
  isplitl [C5 C6]
  · iapply (show iprop(crd c 2 1 ∗ crd c 2 1) ⊢ (crd c 2 2 : sProp 𝕄) from
      (cred_add _ _).2.trans (Entails.of_eq (congrArg cred (tallyAt_add (cell c 2) () 1 1))))
    isplitl [C5]; · iexact C5
    iexact C6
  isplitl [C7]; · iexact C7
  iexact C8

/-! ## The launch -/

theorem counters (c : Dev nD) : (unscopedSems0 c : sProp 𝕄) = bigSep Finset.univ fun k : Fin 3 => val0 c (k.castLE (by decide)) := by
  unfold unscopedSems0
  rw [bigSep_univ_eq_bigSepL [0, 1, 2] (by decide) (by decide), bigSep_eq_bigSepL_of_eq [sm 0, sm 1, sm 2] (by decide) (by decide)]
  rfl

/-- What of a device's launch holdings is not the conversation's. -/
def bundle (ρ : Dev nD → PrngReg) (c : Dev nD) : sProp 𝕄 :=
  iprop(StableHlo.held (c : Thread nD τ) (Pipeline.ucRefs τ sig) (V0 m c) ∗ Pipeline.launchCred O0 c
    ∗ owes (c : Thread nD τ) (O0 c) ∅ ∗ prngReg c (ρ c))

abbrev T₀ (c : Dev nD) : sProp 𝕄 := iprop(StableHlo.held (c : Thread nD τ) (Pipeline.ucRefs τ sig) (V0 m c) ∗ E m 0 c)

theorem deal (ρ : Dev nD → PrngReg) (c : Dev nD) : iprop(recs (vals m) ∗ (linear c ∗ bundle m ρ c)) ⊢ T₀ m c := by
  show _ ⊢ iprop(_ ∗ ride (q0 m) O0 c)
  unfold linear bundle ride q0 later3 later5 rights0 rights3 rights5
  rw [positions, duties]
  iintro ⟨#HR, ⟨⟨A0, A1, A2⟩, Hs, T0, T1, T2, T2', T3, T4, T5, T6, T7, T8, T9, T10, T11, T12, T13⟩, Hh, Hc, HO, Hp⟩
  ihave Hc := (credits (F := F) c) $$ Hc
  icases Hc with ⟨C0, C5, C6, C1, C8, C2, C12, C13⟩
  ihave Hs := (sleepers (F := F) c) $$ Hs
  icases Hs with ⟨S0, S3, S5⟩
  isplitl [Hh]; · iexact Hh
  isplitl [Hp]; · iexists (ρ c); iexact Hp
  isplitr [HO]
  · isplitr; · iexact HR
    isplitl [A0 T0 T3 T5 T4 T6 C0 C5 C6 S0]
    · isplitr [S0]
      · isplitl [A0]; · iexact A0
        isplitl [T0]; · iexact T0
        isplitl [T3 T5]; · (isplitl [T3] <;> iassumption)
        isplitl [T4 T6]; · (isplitl [T4] <;> iassumption)
        isplitl [C0]; · iexact C0
        isplitl [C5]; · iexact C5
        iexact C6
      · iexact S0
    isplitl [A1 T1 T7 T8 C1 C8 S3]
    · isplitr [S3]
      · isplitl [A1]; · iexact A1
        isplitl [T1]; · iexact T1
        isplitl [T7]; · iexact T7
        isplitl [T8]; · iexact T8
        isplitl [C1]; · iexact C1
        iexact C8
      · iexact S3
    isplitr [S5]
    · isplitl [A2]; · iexact A2
      isplitl [T2]; · iexact T2
      isplitl [T2']; · iexact T2'
      isplitl [T9]; · iexact T9
      isplitl [T10 T12]; · (isplitl [T10] <;> iassumption)
      isplitl [T11 T13]; · (isplitl [T11] <;> iassumption)
      isplitl [C2]; · iexact C2
      isplitl [C12]; · iexact C12
      iexact C13
    · iexact S5
  · iexists ∅; iexact HO

theorem init (ρ : Dev nD → PrngReg) :
    iprop((bigSep Finset.univ fun c : Dev nD => iprop(unscopedBufs c (fun b => m ((c : Thread nD τ).loc b)) ∗ unscopedSems0 c
          ∗ owes (c : Thread nD τ) (O0 c) ∅ ∗ Pipeline.launchCred O0 c ∗ prngReg c (ρ c) ∗ share c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O0 c) ∅ ∗ Pipeline.launchCred O0 c ∗ prngReg c (ρ c) ∗ share c)
      ⊢ (iprop(bundle m ρ c ∗ (bigSep Finset.univ fun k : Fin 3 => val0 c (k.castLE (by decide))) ∗ share c) : sProp 𝕄) := by
    rw [show unscopedBufs c (fun b => m ((c : Thread nD τ).loc b)) = StableHlo.held (c : Thread nD τ) (Pipeline.ucRefs τ sig) (V0 m c) from
      Pipeline.unscopedBufs_held c (V0 m c), counters]
    unfold bundle
    iintro ⟨Hh, Hus, HO, Hcr, Hp, HG⟩
    isplitl [Hh HO Hcr Hp]
    · isplitl [Hh]; · iexact Hh
      isplitl [Hcr]; · iexact Hcr
      isplitl [HO] <;> iassumption
    isplitl [Hus] <;> iassumption
  have hall : (bigSep Finset.univ fun c : Dev nD => iprop(unscopedBufs c (fun b => m ((c : Thread nD τ).loc b)) ∗ unscopedSems0 c
        ∗ owes (c : Thread nD τ) (O0 c) ∅ ∗ Pipeline.launchCred O0 c ∗ prngReg c (ρ c) ∗ share c))
      ⊢ (bigSep Finset.univ fun c : Dev nD => iprop(bundle m ρ c ∗ (bigSep Finset.univ fun k : Fin 3 => val0 c (k.castLE (by decide))) ∗ share c) : sProp 𝕄) :=
    bigSep_mono fun c _ => hcore c
  have hv : bigSep Finset.univ (fun c : Dev nD => bigSep Finset.univ fun k : Fin 3 => (val0 c (k.castLE (by decide)) : sProp 𝕄))
      ⊢ bigSep barCells (fun g => (semVal g 0 : sProp 𝕄)) := by
    rw [bigSep_map, bigSep_univ_prod]; exact Entails.of_eq rfl
  have hat : bigSep barCells (fun g => (atPos ER g 0 ∅ 0 : sProp 𝕄))
      ⊢ bigSep Finset.univ fun c : Dev nD => bigSep Finset.univ fun k : Fin 3 => (at0 c (k.castLE (by decide)) : sProp 𝕄) := by
    rw [bigSep_map, bigSep_univ_prod]; exact Entails.of_eq rfl
  have hopen : bigSep slpCells (fun g => (openTok ER g : sProp 𝕄))
      ⊢ bigSep Finset.univ fun c : Dev nD => bigSep Finset.univ fun k : Fin 11 => (openTok ER (cell c (Fin.natAdd 3 k)) : sProp 𝕄) := by
    rw [bigSep_map, bigSep_univ_prod]; exact Entails.of_eq rfl
  iintro ⟨H, -⟩
  ihave H' := hall $$ H
  ihave H2 := bigSep_unpair $$ H'; icases H2 with ⟨HB, H3⟩
  ihave H4 := bigSep_unpair $$ H3; icases H4 with ⟨Hv, HG⟩
  ihave Hu := (Entails.of_eq (share_all (F := F))) $$ HG
  imod (Rounds.fund_launch ER (rd (vals m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := recs (vals m)) (Φ := fun c => iprop(linear c ∗ bundle m ρ c)) fun c _ => deal m ρ c)
  isplitr
  · iapply (recs_intro m κ)
    isplitr; · iexact Hinv
    iexact Hr
  iapply bigSep_pair
  isplitr [HB]
  · unfold linear
    iapply bigSep_pair; isplitl [Hat]; · iapply hat $$ Hat
    iapply bigSep_pair; isplitl [Hopen]; · iapply hopen $$ Hopen
    iapply (Entails.of_eq (toks_around (F := F))) $$ Htok
  · iexact HB

/-! ## The run -/

abbrev Tₙ (c : Dev nD) : sProp 𝕄 := iprop(StableHlo.held (c : Thread nD τ) (Pipeline.ucRefs τ sig) (V7 m (outs m) c) ∗ q6 c)

theorem finish (c : Dev nD) : E m 6 c ⊢ iprop(q6 c ∗ ∃ W, owes (c : Thread nD τ) (0 : CellTallies nD τ sig Unit) W) := by
  show ride q6 (owe []) c ⊢ _
  unfold ride
  iintro ⟨-, Hq, HO⟩
  isplitl [Hq]; · iexact Hq
  iexact HO

theorem last (c : Dev nD) : iprop(StableHlo.held (c : Thread nD τ) (Pipeline.ucRefs τ sig) (V7 m (outs m) c) ∗ E m 6 c)
    ⊢ iprop(Tₙ m c ∗ ∃ W, owes (c : Thread nD τ) (0 : CellTallies nD τ sig Unit) W) := by
  iintro ⟨Hh, HE⟩
  ihave H := (finish m c) $$ HE
  icases H with ⟨Hq, HO⟩
  isplitr [HO]
  · isplitl [Hh] <;> iassumption
  · iexact HO

theorem unscoped_eq : ∀ s : SemLoc sig, s.isScoped .tc = false → s = sm 0 ∨ s = sm 1 ∨ s = sm 2 := by decide

/-- What a device's memory holds at the end. -/
def Ended (c : Dev nD) (s : MemSt nD τ sig (Elt F)) : Prop :=
  (∀ b ∈ Pipeline.ucRefs τ sig, s.mem ((c : Dev nD), b) = V7 m (outs m) c b)
    ∧ s.sem (cell c 0) = 0 ∧ s.sem (cell c 1) = 0 ∧ s.sem (cell c 2) = 0

theorem ended (c : Dev nD) (s' : Phys nD τ sig (Elt F)) : iprop(Tₙ m c ∗ SI s') ⊢ (|={Set.univ}=> iprop(⌜Ended m c s'.mem⌝ ∗ SI s') : sProp 𝕄) := by
  unfold Tₙ q6 StableHlo.held
  iintro ⟨⟨Hh, Hb2, Hb1, Hb0⟩, HSI⟩
  icombine HSI Hb0 gives %h0
  icombine HSI Hb1 gives %h1
  icombine HSI Hb2 gives %h2
  ihave Hr := (pointsTo_read_all (Pipeline.ucRefs τ sig) (fun b => ((c : Thread nD τ).1, b)) (V7 m (outs m) c) s') $$ [Hh HSI]
  · isplitl [Hh] <;> iassumption
  icases Hr with ⟨%h, HSI⟩
  imodintro
  isplitr
  · ipureintro
    exact ⟨h, by simpa using h0, by simpa using h1, by simpa using h2⟩
  · iexact HSI

set_option backward.isDefEq.respectTransparency.types false in
/-- The whole program, from any memory with zero counters: every execution ends, with the devices' results the gathered
    sums, the arguments as they were, and every counter at zero. -/
theorem run_main (ρ : Dev nD → PrngReg) : θ_run defs (onTc (τ := τ) (main (F := F))) ⟨m, fun _ => 0, ρ⟩
    (fun r => (∀ c : Dev nD, r.2.mem ((c : Thread nD τ).loc main_v27) = gath (vals m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_dev_sems (pcfgs (F := F)) Gen.adm (pdats m) () cellOf_inj EP defs₀ 𝒱₀ L lv m ρ main
    (segs m 𝒱₀ L lv (E m) () (pdats m) (reg0 m) (reg1 m) (reg2 m) (reg3 m) (reg4 m) (reg5 m))
    (fun c Q => by
      rewrite [main_chain c, Pipeline.Seg.run_eq_chain,
        show (segs m 𝒱₀ L lv (E m) () (pdats m) (reg0 m) (reg1 m) (reg2 m) (reg3 m) (reg4 m) (reg5 m) c).map Pipeline.Seg.prog = [
          StableHlo.seq (hostOps0 c),
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()) ] from rfl]
      dsimp (config := { failIfUnchanged := false }) only
      exact .rfl)
    (fun c => by simp only [segs, Pipeline.Seg.pipes_host, Pipeline.Seg.pipes_region, Pipeline.Seg.pipes_nil]; decide)
    (O₀ := O0) (hL := L_of_ne) (G := share) (u₀ := u₀)
    (hu₀ := by
      unfold u₀
      iintro Hu
      ihave H := (ownU_pair _ _) $$ Hu
      icases H with ⟨HP, HX⟩
      imodintro
      isplitl [HP]; · iexact HP
      rw [share_all]; iexact HX)
    (T₀ := T₀ m) (Tₙ := Tₙ m)
    (hch := fun c => ⟨.rfl, pre0' m c, (post0' m c).trans (pre1' m c), (post1' m c).trans (pre2' m c), (post2' m c).trans (pre3' m c),
      (post3' m c).trans (pre4' m c), (post4' m c).trans (pre5' m c),
      (post5' m c).trans (last m c)⟩)
    (hinit := init m ρ) (QY := Ended m) (hfin := ended m)
    (hQ := fun s h hs => by
      have look (c : Dev nD) (r : Ref sig .tc) (hr : ¬ (Proc.devRef .tc r : DevRef τ sig).isScoped = true := by decide) :
          s.mem ((c : Thread nD τ).loc r) = V7 m (outs m) c (Proc.devRef .tc r) :=
        (h c).1 (Proc.devRef .tc r) (Finset.mem_filter.mpr ⟨StableHlo.devRef_mem_tcRefs r, hr⟩)
      refine ⟨fun c => ⟨(look c main_v27).trans (at7_v27 m c), (look c main_arg0).trans (V7_main_arg0 m (outs m) c),
        (look c main_arg1).trans (V7_main_arg1 m (outs m) c), (look c main_arg2).trans (V7_main_arg2 m (outs m) c),
        (look c main_arg3).trans (V7_main_arg3 m (outs m) c)⟩, sem_eq_zero hs fun c s' hsm => ?_⟩
      rcases unscoped_eq s' hsm with rfl | rfl | rfl
      · exact (h c).2.1
      · exact (h c).2.2.1
      · exact (h c).2.2.2)

end Cert.KernelIdeal.Talk

end
-- ==== Proof.Experts.lean ====
/- One row through the expert it names, and the eight experts in two halves. -/
module

public import Idealize.ShloMosaic.Lib.Pipeline.ValueKit
public import Idealize.ShloMosaic.Lib.WordCmp

@[expose] public section

set_option maxRecDepth 16384

noncomputable section

namespace Cert.Experts

open Idealize.ShloMosaic

/-- One expert's two layers on one row `x`, read at one column of the second layer: `w1` the first layer's weights, `w2`
    that column of the second's. -/
def ffn (x : Fin 2048 → EReal) (w1 : Fin 2048 → Fin 4096 → EReal) (w2 : Fin 4096 → EReal) : EReal :=
  ∑ f, max (∑ l, x l * w1 l f) 0 * w2 f

theorem sel {α : Type} (a b : BitVec 32) (x y : α) : Scalar.select (IntOp.cmpi .eq a b) x y = if a = b then x else y := by
  rw [WordCmp.cmpi_eq_eq]
  by_cases h : a = b <;> simp [Scalar.select, h]

/-- The value of the expert that `a` names, zero where it names none: the later experts first. -/
def pick (a : BitVec 32) (h : Fin 8 → EReal) : EReal :=
  if a = 7#32 then h 7 else if a = 6#32 then h 6 else if a = 5#32 then h 5 else if a = 4#32 then h 4
    else if a = 3#32 then h 3 else if a = 2#32 then h 2 else if a = 1#32 then h 1 else if a = 0#32 then h 0 else 0

/-- The same as a sum in which at most one term is not zero. -/
theorem pick_sum (a : BitVec 32) (h : Fin 8 → EReal) : ∑ e : Fin 8, (if a = BitVec.ofNat 32 e.val then h e else 0) = pick a h := by
  by_cases hn : ∃ e : Fin 8, a = BitVec.ofNat 32 e.val
  · obtain ⟨e, rfl⟩ := hn
    have hd : ∀ e e' : Fin 8, BitVec.ofNat 32 e.val = BitVec.ofNat 32 e'.val ↔ e' = e := by decide
    simp only [hd, Finset.sum_ite_eq', Finset.mem_univ, if_true]
    fin_cases e <;> rfl
  · have hn' : ∀ e : Fin 8, ¬ a = BitVec.ofNat 32 e.val := fun e he => hn ⟨e, he⟩
    simp only [hn', if_false, Finset.sum_const_zero]
    exact ((if_neg (hn' 7)).trans <| (if_neg (hn' 6)).trans <| (if_neg (hn' 5)).trans <| (if_neg (hn' 4)).trans <| (if_neg (hn' 3)).trans <|
      (if_neg (hn' 2)).trans <| (if_neg (hn' 1)).trans (if_neg (hn' 0))).symm

/-- The four experts of the devices whose place on the first axis is `s`. -/
def four (a : BitVec 32) (h : Fin 8 → EReal) (s : ℕ) (hs : s < 2) : EReal :=
  ∑ e : Fin 4, if a = BitVec.ofNat 32 (4 * s + e.val) then h ⟨4 * s + e.val, by omega⟩ else 0

/-- The two places together hold all eight. -/
theorem halves (a : BitVec 32) (h : Fin 8 → EReal) (s s' : ℕ) (hs : s < 2) (hs' : s' < 2) (hne : s ≠ s') :
    four a h s hs + four a h s' hs' = pick a h := by
  have key : four a h 0 (by decide) + four a h 1 (by decide) = pick a h := by
    rw [← pick_sum, ← Fin.sum_mul_add_fin 2 4, Fin.sum_univ_two]
    rfl
  interval_cases s <;> interval_cases s'
  · exact absurd rfl hne
  · exact key
  · exact (add_comm _ _).trans key
  · exact absurd rfl hne

end Cert.Experts
end
-- ==== Proof.Sums.lean ====
/- The sum a device leaves over its grid, over the reals with infinities: each row through the expert it names. -/
module

public import proofs.«01_k».proof.Proof.Contents
public import proofs.«01_k».proof.Proof.Experts

@[expose] public section

set_option maxRecDepth 16384

noncomputable section

namespace Cert.KernelIdeal.Talk

open Cert.KernelIdeal Cert.KernelIdeal.Gen Cert.Experts
open Idealize.ShloMosaic Idealize.ShloMosaic.TcCoe

/-- The grid's point `t` is expert `t / 8` of the device's four, and block `t % 8` of the hidden units. -/
theorem coord0 (t : Fin grid1.N) : (grid1.coords t 0).val = t.val / 8 := by
  have ht : t.val < 32 := Nat.lt_of_lt_of_eq t.isLt N_1
  have e0 : (grid1.coords t 0).val = t.val / 8 % 4 := Pipeline.Grid.coords_val t 0 (by decide) rfl
  omega

theorem word_eq : ∀ (c : Dev nD) (e : Fin 4),
    Scalar.addi (Scalar.muli (Scalar.remsi (Scalar.divsi c.word 4#32) 2#32) 4#32) (BitVec.ofNat 32 e.val) = BitVec.ofNat 32 (4 * (c.val / 4) + e.val) := by
  decide

theorem idx0 : ∀ t : Fin grid1.N, win1_0.index t = ![0, 0] ∧ win1_1.index t = ![0, 0] ∧ win1_2.index t = ![t.val / 8, 0, t.val % 8]
    ∧ win1_3.index t = ![t.val / 8, t.val % 8, 0] := by decide +kernel

theorem point (i : grid1.Coords) (c : Dev nD) (x : FVec Ideal S1024x2048 .f32) (w1 : FVec Ideal S1x2048x512 .f32) (w2 : FVec Ideal S1x512x2048 .f32)
    (a : IVec S1024x1 32) (p : FVec Ideal S1024x2048 .f32) (j : S1024x2048.Idx) :
    k1_pay2 i c x w1 w2 a p j = p j + if a (ix2 (j 0) 0) = BitVec.ofNat 32 (4 * (c.val / 4) + (i 0).val) then
      ∑ k, max (∑ l, x (ix2 (j 0) l) * w1 (ix3 0 l k)) 0 * w2 (ix3 0 k (j 1)) else 0 := by
  pointwise [k1_pay2]
  rw [word_eq c (i 0), sel]

theorem zero (j : S1024x2048.Idx) : (k1_pay1 : FVec Ideal S1024x2048 .f32) j = 0 := by
  pointwise [k1_pay1]

theorem blk0 (X : FVec Ideal S1024x2048 .f32) (t : Fin grid1.N) (i : Fin 1024) (l : Fin 2048) :
    ((win1_0.blk t).view.read (Elt Ideal) X : FVec Ideal S1024x2048 .f32) (ix2 i l) = X (ix2 i l) := by
  blk_ext [idx0 t]

theorem blk1 (X : IVec S1024x1 32) (t : Fin grid1.N) (i : Fin 1024) :
    ((win1_1.blk t).view.read (Elt Ideal) X : IVec S1024x1 32) (ix2 i 0) = X (ix2 i 0) := by
  blk_ext [idx0 t]

theorem blk2 (X : FVec Ideal S4x2048x4096 .f32) (t : Fin grid1.N) (l : Fin 2048) (k : Fin 512) (h0 : t.val / 8 < 4) (h1 : t.val % 8 * 512 + k.val < 4096) :
    ((win1_2.blk t).view.read (Elt Ideal) X : FVec Ideal S1x2048x512 .f32) (ix3 0 l k) = X (ix3 ⟨t.val / 8, h0⟩ l ⟨t.val % 8 * 512 + k.val, h1⟩) := by
  blk_ext [idx0 t]

theorem blk3 (X : FVec Ideal S4x4096x2048 .f32) (t : Fin grid1.N) (l : Fin 2048) (k : Fin 512) (h0 : t.val / 8 < 4) (h1 : t.val % 8 * 512 + k.val < 4096) :
    ((win1_3.blk t).view.read (Elt Ideal) X : FVec Ideal S1x512x2048 .f32) (ix3 0 k l) = X (ix3 ⟨t.val / 8, h0⟩ ⟨t.val % 8 * 512 + k.val, h1⟩ l) := by
  blk_ext [idx0 t]

/-- What point `t` adds at row `j 0` and column `j 1`. -/
def part (c : Dev nD) (x0 : Fin grid1.N → FVec Ideal S1024x2048 .f32) (x1 : Fin grid1.N → IVec S1024x1 32)
    (x2 : Fin grid1.N → FVec Ideal S1x2048x512 .f32) (x3 : Fin grid1.N → FVec Ideal S1x512x2048 .f32) (j : S1024x2048.Idx) (t : Fin grid1.N) : EReal :=
  if x1 t (ix2 (j 0) 0) = BitVec.ofNat 32 (4 * (c.val / 4) + t.val / 8) then
    ∑ k, max (∑ l, x0 t (ix2 (j 0) l) * x2 t (ix3 0 l k)) 0 * x3 t (ix3 0 k (j 1)) else 0

/-- The running sum after point `n` is the sum of what the points add. -/
theorem acc_sum (c : Dev nD) (x0 : Fin grid1.N → FVec Ideal S1024x2048 .f32) (x1 : Fin grid1.N → IVec S1024x1 32)
    (x2 : Fin grid1.N → FVec Ideal S1x2048x512 .f32) (x3 : Fin grid1.N → FVec Ideal S1x512x2048 .f32) (j : S1024x2048.Idx) (n : ℕ) (h : n < grid1.N) :
    (acc (F := Ideal) c x0 x1 x2 x3 n h j : EReal) = ∑ s : Fin (n + 1), part c x0 x1 x2 x3 j ⟨s.val, Nat.lt_of_lt_of_le s.isLt h⟩ := by
  induction n with
  | zero =>
    rw [acc, point, zero, coord0, zero_add, Fin.sum_univ_one]
    rfl
  | succ n ih =>
    rw [acc, point, ih, coord0, Fin.sum_univ_castSucc (n := n + 1)]
    rfl

/-- All of it, at row `j 0` and column `j 1`: the row goes through the expert it names, if that is one of the device's four. -/
theorem moe_eq (c : Dev nD) (X : FVec Ideal S1024x2048 .f32) (A : IVec S1024x1 32) (W1 : FVec Ideal S4x2048x4096 .f32)
    (W2 : FVec Ideal S4x4096x2048 .f32) (j : S1024x2048.Idx) :
    (moe (F := Ideal) c X A W1 W2 j : EReal) = ∑ e : Fin 4, if A (ix2 (j 0) 0) = BitVec.ofNat 32 (4 * (c.val / 4) + e.val) then
      ffn (fun l => X (ix2 (j 0) l)) (fun l f => W1 (ix3 e l f)) (fun f => W2 (ix3 e f (j 1))) else 0 := by
  unfold moe
  rw [acc_sum]
  have key : ∀ e : Fin 4, (if A (ix2 (j 0) 0) = BitVec.ofNat 32 (4 * (c.val / 4) + e.val) then
      ffn (fun l => X (ix2 (j 0) l)) (fun l f => W1 (ix3 e l f)) (fun f => W2 (ix3 e f (j 1))) else 0)
      = ∑ f : Fin 8, if A (ix2 (j 0) 0) = BitVec.ofNat 32 (4 * (c.val / 4) + e.val) then ∑ k : Fin 512,
        (fun f : Fin 4096 => max (∑ l, X (ix2 (j 0) l) * W1 (ix3 e l f)) 0 * W2 (ix3 e f (j 1))) ⟨f.val * 512 + k.val, by omega⟩ else 0 := by
    intro e
    by_cases h : A (ix2 (j 0) 0) = BitVec.ofNat 32 (4 * (c.val / 4) + e.val)
    · simp only [h, if_true]
      exact (Fin.sum_mul_add_fin 8 512 _).symm
    · simp only [h, if_false, Finset.sum_const_zero]
  rw [Finset.sum_congr rfl fun e _ => key e]
  refine Eq.trans ?_ (Fin.sum_mul_add_fin (L := 32) 4 8 (fun s : Fin 32 => if A (ix2 (j 0) 0) = BitVec.ofNat 32 (4 * (c.val / 4) + s.val / 8) then
      ∑ k : Fin 512, (fun f : Fin 4096 => max (∑ l, X (ix2 (j 0) l) * W1 (ix3 ⟨s.val / 8, by omega⟩ l f)) 0 * W2 (ix3 ⟨s.val / 8, by omega⟩ f (j 1)))
        ⟨s.val % 8 * 512 + k.val, by omega⟩ else 0)).symm |>.trans ?_
  · refine Finset.sum_congr rfl fun s _ => ?_
    have h8 : s.val / 8 < 4 := Nat.div_lt_of_lt_mul s.isLt
    exact if_congr (iff_of_eq (congrArg (· = _) (blk1 A _ (j 0))))
      (Finset.sum_congr rfl fun k _ => congrArg₂ (· * ·)
        (congrArg (max · 0) (Finset.sum_congr rfl fun l _ => congrArg₂ (· * ·) (blk0 X _ (j 0) l) (blk2 W1 _ l k h8 (by omega))))
        (blk3 W2 _ (j 1) k h8 (by omega))) rfl
  · refine Finset.sum_congr rfl fun e _ => Finset.sum_congr rfl fun f _ => ?_
    have h1 : (e.val * 8 + f.val) / 8 = e.val := by omega
    have h2 : (e.val * 8 + f.val) % 8 = f.val := by omega
    simp only [h1, h2]

end Cert.KernelIdeal.Talk
end
-- ==== Proof.Rows.lean ====
/- The rows a device takes as its own, read at a row of its quarter. -/
module

public import proofs.«01_k».proof.Proof.Contents
public import Idealize.ShloMosaic.Lib.Pipeline.ValueKit
public import Idealize.ShloMosaic.Lib.DynamicIndex
public import Idealize.ShloMosaic.Lib.StableHlo.RunClose

@[expose] public section

set_option maxRecDepth 16384

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ)

/-- The number of a device's first row, as the program reckons it from the device's number. -/
def rowWord (c : Dev nD) : IVec S_ 32 :=
  let q := muli (addi (muli (constantI S_ 32 2#32) (Host.remui (Host.divui (constantI S_ 32 (Dev.word c)) (constantI S_ 32 2#32)) (constantI S_ 32 2#32)))
    (Host.remui (Host.divui (constantI S_ 32 (Dev.word c)) (constantI S_ 32 1#32)) (constantI S_ 32 2#32))) (constantI S_ 32 1024#32)
  select (cmpi .slt q (constantI S_ 32 0#32)) (addi q (constantI S_ 32 4096#32)) q

theorem rowWord_eq : ∀ (c : Dev nD) (i : S_.Idx), (rowWord c i).toInt = ((1024 * (c.val % 4) : ℕ) : ℤ) := by
  intro c i
  have h : rowWord c i = BitVec.ofNat 32 (1024 * (c.val % 4)) := by
    pointwise [rowWord]
    revert c; decide
  rw [h]; clear h
  revert c; decide

theorem v15 (c : Dev nD) :
    (V1 m c main_v15 : FVec Ideal S1024x2048 .f32) = Host.dynamicSlice S1024x2048 (m ((c : Thread nD τ).loc main_arg0) : FVec Ideal S4096x2048 .f32)
      (fun k => ((![rowWord c, constantI S_ 32 0#32] : Fin 2 → IVec S_ 32) k (Shape.Idx.first h_S_)).toInt) sliceFits_S4096x2048_S1024x2048 := by
  unfold V1 V0
  after_results_simp_entrywise
  rfl

theorem v21 (c : Dev nD) :
    (V1 m c main_v21 : IVec S1024x1 32) = shapeCast S1024x1 (Host.dynamicSlice S1024 (m ((c : Thread nD τ).loc main_arg1) : IVec S4096 32)
      (fun k => ((![rowWord c] : Fin 1 → IVec S_ 32) k (Shape.Idx.first h_S_)).toInt) sliceFits_S4096_S1024) shapeCasts_S1024_S1024x1 := by
  unfold V1 V0
  after_results_simp_entrywise
  rfl

theorem v15_at (c : Dev nD) (i : Fin 1024) (l : Fin 2048) :
    (V1 m c main_v15 : FVec Ideal S1024x2048 .f32) (ix2 i l) = (m ((c : Thread nD τ).loc main_arg0) : FVec Ideal S4096x2048 .f32) (ix2 ⟨1024 * (c.val % 4) + i.val, by omega⟩ l) := by
  rw [v15]
  rw [Host.dynamicSlice_eq_extractStridedSlice S1024x2048 _ _ ![1024 * (c.val % 4), 0] _ (by revert c; decide)]
  · pointwise
  · intro a
    fin_cases a
    · exact rowWord_eq c _
    · rfl

theorem v21_at (c : Dev nD) (i : Fin 1024) :
    (V1 m c main_v21 : IVec S1024x1 32) (ix2 i 0) = (m ((c : Thread nD τ).loc main_arg1) : IVec S4096 32) (ix1 ⟨1024 * (c.val % 4) + i.val, by omega⟩) := by
  rw [v21]
  rw [Host.dynamicSlice_eq_extractStridedSlice S1024 _ _ ![1024 * (c.val % 4)] _ (by revert c; decide)]
  · pointwise
  · intro a
    fin_cases a
    exact rowWord_eq c _
end Cert.KernelIdeal.Talk
end
-- ==== Proof.Ref.lean ====
/- The reference's result, read at a row and a column. -/
module

public import proofs.«01_k».proof.Proof.Gen.ReferenceIdeal.Run
public import proofs.«01_k».proof.Proof.Experts

@[expose] public section

set_option maxRecDepth 16384

noncomputable section

namespace Cert.ReferenceIdeal.Value

open Cert.ReferenceIdeal Cert.ReferenceIdeal.Gen Cert.Experts
open Idealize.ShloMosaic Idealize.ShloMosaic.TcCoe

variable (m : (ℓ : Loc nD τ sig) → Buf (Elt Ideal) ℓ)

/-- Each row goes through the expert it names. -/
theorem res_at (c : Dev nD) (j : S8192x2048.Idx) :
    (res_main_v96 m c : FVec Ideal S8192x2048 .f32) j = pick ((m ((c.tc : Thread nD τ).loc main_arg1) : IVec S8192 32) (ix1 (j 0))) fun e =>
      ffn (fun l => (m ((c.tc : Thread nD τ).loc main_arg0) : FVec Ideal S8192x2048 .f32) (ix2 (j 0) l))
        (fun l f => (m ((c.tc : Thread nD τ).loc main_arg2) : FVec Ideal S8x2048x4096 .f32) (ix3 e l f))
        (fun f => (m ((c.tc : Thread nD τ).loc main_arg3) : FVec Ideal S8x4096x2048 .f32) (ix3 e f (j 1))) := by
  pointwise [res_main_v96]
  simp only [sel]
  rfl

end Cert.ReferenceIdeal.Value
end
-- ==== Proof.Value.lean ====
/- Every device ends with its rows of the reference's result. -/
module

public import proofs.«01_k».proof.Proof.Sums
public import proofs.«01_k».proof.Proof.Rows
public import proofs.«01_k».proof.Proof.Ref
public import Idealize.ShloMosaic.Lib.LayoutAt

@[expose] public section

set_option maxRecDepth 16384

noncomputable section

namespace Cert.KernelIdeal.Talk

open Cert.KernelIdeal Cert.KernelIdeal.Gen Cert.Experts
open Idealize.ShloMosaic Idealize.ShloMosaic.TcCoe

/-! ### A device's part of each array -/

theorem part_x (v : (⟨2, ![8192, 2048]⟩ : Shape).Idx → EReal) (c : Dev nD) (i : Fin 4096) (l : Fin 2048) (h : 4096 * (c.val / 4) + i.val < 8192) :
    Layout.blockN ⟨2, ![4096, 2048]⟩ ⟨2, ![8192, 2048]⟩ (Layout.meshBlock [2, 2, 2] ![[0], []] c) v (by decide) (ix2 i l) = v (ix2 ⟨4096 * (c.val / 4) + i.val, h⟩ l) := by
  fin_cases c <;> shard_ext

theorem part_a (v : (⟨1, ![8192]⟩ : Shape).Idx → BitVec 32) (c : Dev nD) (i : Fin 4096) (h : 4096 * (c.val / 4) + i.val < 8192) :
    Layout.blockN ⟨1, ![4096]⟩ ⟨1, ![8192]⟩ (Layout.meshBlock [2, 2, 2] ![[0]] c) v (by decide) (ix1 i) = v (ix1 ⟨4096 * (c.val / 4) + i.val, h⟩) := by
  fin_cases c <;> shard_ext

theorem part_w1 (v : (⟨3, ![8, 2048, 4096]⟩ : Shape).Idx → EReal) (c : Dev nD) (e : Fin 4) (l : Fin 2048) (f : Fin 4096) (h : 4 * (c.val / 4) + e.val < 8) :
    Layout.blockN ⟨3, ![4, 2048, 4096]⟩ ⟨3, ![8, 2048, 4096]⟩ (Layout.meshBlock [2, 2, 2] ![[0], [], []] c) v (by decide) (ix3 e l f) = v (ix3 ⟨4 * (c.val / 4) + e.val, h⟩ l f) := by
  fin_cases c <;> shard_ext

theorem part_w2 (v : (⟨3, ![8, 4096, 2048]⟩ : Shape).Idx → EReal) (c : Dev nD) (e : Fin 4) (f : Fin 4096) (l : Fin 2048) (h : 4 * (c.val / 4) + e.val < 8) :
    Layout.blockN ⟨3, ![4, 4096, 2048]⟩ ⟨3, ![8, 4096, 2048]⟩ (Layout.meshBlock [2, 2, 2] ![[0], [], []] c) v (by decide) (ix3 e f l) = v (ix3 ⟨4 * (c.val / 4) + e.val, h⟩ f l) := by
  fin_cases c <;> shard_ext

/-! ### The result -/

variable (m : (ℓ : Loc nD τ sig) → Buf (Elt Ideal) ℓ)
variable (X : (⟨2, ![8192, 2048]⟩ : Shape).Idx → EReal) (A : (⟨1, ![8192]⟩ : Shape).Idx → BitVec 32)
  (W1 : (⟨3, ![8, 2048, 4096]⟩ : Shape).Idx → EReal) (W2 : (⟨3, ![8, 4096, 2048]⟩ : Shape).Idx → EReal)

/-- Expert `e` on row `i`, at column `k`. -/
def out (i : Fin 8192) (k : Fin 2048) (e : Fin 8) : EReal :=
  ffn (fun l => X (ix2 i l)) (fun l f => W1 (ix3 e l f)) (fun f => W2 (ix3 e f k))

variable (hX : ∀ c : Dev nD, m ((c : Thread nD τ).loc main_arg0) = Layout.blockN ⟨2, ![4096, 2048]⟩ ⟨2, ![8192, 2048]⟩ (Layout.meshBlock [2, 2, 2] ![[0], []] c) X)
  (hA : ∀ c : Dev nD, m ((c : Thread nD τ).loc main_arg1) = Layout.blockN ⟨1, ![4096]⟩ ⟨1, ![8192]⟩ (Layout.meshBlock [2, 2, 2] ![[0]] c) A)
  (hW1 : ∀ c : Dev nD, m ((c : Thread nD τ).loc main_arg2) = Layout.blockN ⟨3, ![4, 2048, 4096]⟩ ⟨3, ![8, 2048, 4096]⟩ (Layout.meshBlock [2, 2, 2] ![[0], [], []] c) W1)
  (hW2 : ∀ c : Dev nD, m ((c : Thread nD τ).loc main_arg3) = Layout.blockN ⟨3, ![4, 4096, 2048]⟩ ⟨3, ![8, 4096, 2048]⟩ (Layout.meshBlock [2, 2, 2] ![[0], [], []] c) W2)

include hX hA hW1 hW2 in
/-- What device `d`, with its own four experts, computes of the rows of device `d'`. -/
theorem moe_half (d d' : Dev nD) (j : S1024x2048.Idx) (i : Fin 8192) (k : Fin 2048) (hi : i.val = 4096 * (d'.val / 4) + 1024 * (d'.val % 4) + (j 0).val)
    (hk : k = j 1) (hd : d.val / 4 < 2) :
    (moe (F := Ideal) d (V1 m d' main_v15) (V1 m d' main_v21) (m ((d : Thread nD τ).loc main_arg2)) (m ((d : Thread nD τ).loc main_arg3)) j : EReal)
      = four (A (ix1 i)) (out X W1 W2 i k) (d.val / 4) hd := by
  subst hk
  have hj : (j 0).val < 1024 := (j 0).isLt
  have hd' : d'.val < 8 := d'.isLt
  have ei : ∀ h, (⟨4096 * (d'.val / 4) + (1024 * (d'.val % 4) + (j 0).val), h⟩ : Fin 8192) = i := fun h => Fin.ext ((Nat.add_assoc _ _ _).symm.trans hi.symm)
  rw [moe_eq]
  unfold four
  refine Finset.sum_congr rfl fun e _ => if_congr (iff_of_eq (congrArg (· = _) ?_)) ?_ rfl
  · rw [v21_at m d' (j 0), hA d']
    exact (part_a A d' _ (by omega)).trans (by rw [ei])
  · unfold out ffn
    refine Finset.sum_congr rfl fun f _ => congrArg₂ (· * ·) (congrArg (max · 0) (Finset.sum_congr rfl fun l _ => congrArg₂ (· * ·) ?_ ?_)) ?_
    · refine (v15_at m d' (j 0) l).trans ?_
      rw [hX d']
      exact (part_x X d' _ l (by omega)).trans (by rw [ei])
    · exact (congrFun (hW1 d) _).trans (part_w1 W1 d e l f _)
    · exact (congrFun (hW2 d) _).trans (part_w2 W2 d e f _ _)

theorem px_half : ∀ d : Dev nD, d.val / 4 ≠ (px d).val / 4 := by decide
theorem mate_half : ∀ (c : Dev nD) (q : Fin 4), (mate c q).val / 4 = c.val / 4 ∧ (mate c q).val % 4 = q.val := by decide
theorem half_lt : ∀ d : Dev nD, d.val / 4 < 2 := by decide

include hX hA hW1 hW2 in
/-- Every device ends with its rows, each through the expert it names. -/
theorem gath_eq (v : (⟨2, ![8192, 2048]⟩ : Shape).Idx → EReal) (hv : ∀ i k, v (ix2 i k) = pick (A (ix1 i)) (out X W1 W2 i k)) (c : Dev nD) :
    gath (vals m) c = Layout.blockN ⟨2, ![4096, 2048]⟩ ⟨2, ![8192, 2048]⟩ (Layout.meshBlock [2, 2, 2] ![[0], []] c) v := by
  funext j
  have hj : (j 0).val < 4096 := (j 0).isLt
  have hc := half_lt c
  have hi : 4096 * (c.val / 4) + (j 0).val < 8192 := by omega
  have ej : j = ix2 (j 0) (j 1) := by funext a; fin_cases a <;> rfl
  refine Eq.trans ?_ (((congrArg _ ej).trans (part_x v c (j 0) (j 1) hi)).trans (hv _ _)).symm
  set d := mate c ⟨(j 0).val / 1024, Nat.div_lt_of_lt_mul (j 0).isLt⟩ with hd
  have h4 : d.val / 4 = c.val / 4 := (mate_half c _).1
  have hq : d.val % 4 = (j 0).val / 1024 := (mate_half c _).2
  refine Eq.trans ?_ (halves _ _ (d.val / 4) ((px d).val / 4) (half_lt d) (half_lt _) (px_half d))
  set j' : S1024x2048.Idx := fun | 0 => ⟨(j 0).val % 1024, Nat.mod_lt _ (by decide)⟩ | 1 => ⟨(j 1).val, (j 1).isLt⟩ with hj'
  have e0 : (j' 0).val = (j 0).val % 1024 := rfl
  have hr : 4096 * (c.val / 4) + (j 0).val = 4096 * (d.val / 4) + 1024 * (d.val % 4) + (j' 0).val := by omega
  have add : ∀ (a b : FVec Ideal S1024x2048 .f32), k4_pay1 (F := Ideal) a b j' = a j' + b j' := fun a b => by pointwise [k4_pay1]
  refine (add (ownSum m d) (remSum m (px d))).trans (congrArg₂ (· + ·) ?_ ?_)
  · exact moe_half m X A W1 W2 hX hA hW1 hW2 d d j' ⟨_, hi⟩ _ hr rfl _
  · unfold remSum
    rw [px_px]
    exact moe_half m X A W1 W2 hX hA hW1 hW2 (px d) d j' ⟨_, hi⟩ _ hr rfl _

end Cert.KernelIdeal.Talk
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Start
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 16384 in
set_option maxHeartbeats 1000000 in
/-- No operation is idealized away, so the two body tables are the same over the same numbers: label by label. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
  | 2, (t, s) => rfl
  | 3, (t, s) => rfl
  | 4, (t, s) => rfl
  | 5, (t, s) => rfl
  | ⟨_ + 6, h⟩, _ => exact absurd h (Nat.not_lt.2 (Nat.le_add_left _ _))

theorem defs_eq : Cert.Kernel.defs (F := Bits) = Cert.KernelIdeal.defs (F := Bits) :=
  congrArg (Pipeline.defs (Cert.Kernel.pcfgs (F := Bits))) defs₀_eq

set_option maxRecDepth 16384 in
set_option maxHeartbeats 1000000 in
theorem main_eq : Cert.Kernel.main (F := Bits) = Cert.KernelIdeal.main (F := Bits) := by
  funext d
  rfl

/-- The kernel's run, whose arguments end unchanged and whose counters end at zero. -/
theorem frame_kernel : Cert.quiescent_Kernel := by
  intro m ρ _
  rw [defs_eq, main_eq]
  exact (θ_run Cert.KernelIdeal.defs _ _).mono (fun _ h => ⟨fun c => (h.1 c).2, h.2⟩)
    (Cert.KernelIdeal.Talk.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Talk.run_main (F := Ideal) m ρ)

/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shared value is the reference's result: each row through the expert it names. -/
theorem value : Cert.algebraic_KernelIdeal_ReferenceIdeal := fun m ρ m' ρ' _ h =>
  ⟨Cert.ReferenceIdeal.Value.res_main_v96 m' 0,
    (θ_run Cert.KernelIdeal.defs _ _).mono (fun _ hr c => ⟨(hr.1 c).1.trans
        (Cert.KernelIdeal.Talk.gath_eq m _ _ _ _ (fun c => (h c).1) (fun c => (h c).2.1) (fun c => (h c).2.2.1) (fun c => (h c).2.2.2) _
          (fun i k => Cert.ReferenceIdeal.Value.res_at m' 0 (ix2 i k)) c), (hr.1 c).2⟩)
      (Cert.KernelIdeal.Talk.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
